-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000x128 : Shape := ⟨2, ![100000, 128]⟩
abbrev S4096x64 : Shape := ⟨2, ![4096, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel

variable [Facts]

def fn {F : FTy → Type} [FloatOps F] (main_arg0 : FVec F S100000x128 .f32) (main_arg1 : IVec S4096x64 32) : IVec S_ 1 :=
  let main_c : IVec S_ 32 := constantI S_ 32 0#32
  let main_v0 : IVec S4096x64 32 := broadcastInDim S4096x64 ![] bcast_S_S4096x64 main_c
  let main_v1 : IVec S4096x64 1 := cmpi .sge main_arg1 main_v0
  let main_c_0 : IVec S_ 32 := constantI S_ 32 100000#32
  let main_v2 : IVec S4096x64 32 := broadcastInDim S4096x64 ![] bcast_S_S4096x64 main_c_0
  let main_v3 : IVec S4096x64 1 := cmpi .slt main_arg1 main_v2
  let main_v4 : IVec S4096x64 1 := andi main_v1 main_v3
  let main_c_1 : IVec S_ 1 := constantI S_ 1 1#1
  let main_v5 : IVec S_ 1 := (fun x v => Host.reduce IntOp.andi x v reducesTo_S4096x64_S_d0_1 h_S_) main_v4 main_c_1
  main_v5
-- ==== Kernel.lean ====
abbrev S100000x128 : Shape := ⟨2, ![100000, 128]⟩
abbrev S4096x64 : Shape := ⟨2, ![4096, 64]⟩
abbrev S262144 : Shape := ⟨1, ![262144]⟩
abbrev S32x128x64 : Shape := ⟨3, ![32, 128, 64]⟩
abbrev S4096x128 : Shape := ⟨2, ![4096, 128]⟩
abbrev S128x64 : Shape := ⟨2, ![128, 64]⟩
abbrev S64x128 : Shape := ⟨2, ![64, 128]⟩
abbrev S128x128 : Shape := ⟨2, ![128, 128]⟩
abbrev S_ : Shape := ⟨0, ![]⟩
abbrev S1x128x64 : Shape := ⟨3, ![1, 128, 64]⟩
abbrev S1x64 : Shape := ⟨2, ![1, 64]⟩
abbrev S64 : Shape := ⟨1, ![64]⟩
abbrev S16 : Shape := ⟨1, ![16]⟩
abbrev S1x16 : Shape := ⟨2, ![1, 16]⟩

abbrev nBuf : Table → Nat
  | .hbm => 5
  | .local .scVector .vmem => 10
  | _ => 0

abbrev bufTy : (tb : Table) → Fin (nBuf tb) → BufTy
  | .hbm, ⟨0, _⟩ => ⟨S100000x128, .f32⟩
  | .hbm, ⟨1, _⟩ => ⟨S4096x64, .i32⟩
  | .hbm, ⟨2, _⟩ => ⟨S262144, .i32⟩
  | .hbm, ⟨3, _⟩ => ⟨S32x128x64, .i32⟩
  | .hbm, ⟨4, _⟩ => ⟨S4096x128, .f32⟩
  | .local .scVector .vmem, ⟨0, _⟩ => ⟨S128x64, .i32⟩
  | .local .scVector .vmem, ⟨1, _⟩ => ⟨S64x128, .f32⟩
  | .local .scVector .vmem, ⟨2, _⟩ => ⟨S64x128, .f32⟩
  | .local .scVector .vmem, ⟨3, _⟩ => ⟨S64x128, .f32⟩
  | .local .scVector .vmem, ⟨4, _⟩ => ⟨S64x128, .f32⟩
  | .local .scVector .vmem, ⟨5, _⟩ => ⟨S64x128, .f32⟩
  | .local .scVector .vmem, ⟨6, _⟩ => ⟨S64x128, .f32⟩
  | .local .scVector .vmem, ⟨7, _⟩ => ⟨S64x128, .f32⟩
  | .local .scVector .vmem, ⟨8, _⟩ => ⟨S64x128, .f32⟩
  | .local .scVector .vmem, ⟨9, _⟩ => ⟨S128x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_26_r0 : BitVec 32 := 0#32
  let c0_i32_27_r0 : BitVec 32 := 0#32
  ![v1.toNat, 0, 0]
@[reducible] def k0_t1_loop : Scf.Loop 32 :=
  let c0_i32_23 : BitVec 32 := 0#32
  let c16_i32 : BitVec 32 := 16#32
  let v23 : BitVec 32 := Scalar.addi c0_i32_23 c16_i32
  let c1_i32_24 : BitVec 32 := 1#32
  ⟨c0_i32_23, v23, c1_i32_24⟩
def k0_cond1 (k0_t1 : Fin k0_t1_loop.trips) : BitVec 1 :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c0_i32_26 : BitVec 32 := 0#32
  let v26 : BitVec 32 := Scalar.addi v25 c0_i32_26
  let c8_i32_27 : BitVec 32 := 8#32
  let v27 : BitVec 32 := Scalar.addi v26 c8_i32_27
  let c1_i32_28 : BitVec 32 := 1#32
  let v28 : BitVec 32 := Scalar.subi v27 c1_i32_28
  let c128_i32_29 : BitVec 32 := 128#32
  let v29 : BitVec 1 := Scalar.cmpi .slt v28 c128_i32_29
  let v30 : BitVec 32 := Scalar.extui v29
  let c0_i32_30 : BitVec 32 := 0#32
  let v31 : BitVec 1 := Scalar.cmpi .ne v30 c0_i32_30
  v31

def k0_off2 (k0_t1 : Fin k0_t1_loop.trips) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c0_i32_26 : BitVec 32 := 0#32
  let v26 : BitVec 32 := Scalar.addi v25 c0_i32_26
  let c8_i32_27 : BitVec 32 := 8#32
  let v27 : BitVec 32 := Scalar.addi v26 c8_i32_27
  let c1_i32_28 : BitVec 32 := 1#32
  let v28 : BitVec 32 := Scalar.subi v27 c1_i32_28
  let c0_i32_432 : BitVec 32 := 0#32
  ![v28.toNat, 0]
def k0_off3 (k0_t1 : Fin k0_t1_loop.trips) (c0_i32_26 : BitVec 32) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let v26 : BitVec 32 := Scalar.addi v25 c0_i32_26
  let c0_i32_31 : BitVec 32 := 0#32
  ![v26.toNat, 0]
@[reducible] def k0_t2_loop : Scf.Loop 32 :=
  let c0_i32_41 : BitVec 32 := 0#32
  let c8_i32_42 : BitVec 32 := 8#32
  let v43 : BitVec 32 := Scalar.addi c0_i32_41 c8_i32_42
  let c1_i32_43 : BitVec 32 := 1#32
  ⟨c0_i32_41, v43, c1_i32_43⟩
def k0_off4 (k0_t2 : Fin k0_t2_loop.trips) (c0_i32_434 : BitVec 32) : Fin 2 → Nat :=
  let c0_i32_433 : BitVec 32 := 0#32
  let c0_i32_41 : BitVec 32 := 0#32
  let c1_i32_43 : BitVec 32 := 1#32
  let arg24 : BitVec 32 := Scf.iv c0_i32_41 c1_i32_43 k0_t2
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v693 : Index := Scalar.indexCast v692
  let c0_435 : Index := 0#32
  ![v693.toNat, 0]
def k0_off5 (k0_t2 : Fin k0_t2_loop.trips) (c0_i32_434 : BitVec 32) : Fin 2 → Nat :=
  let c0_i32_433 : BitVec 32 := 0#32
  let c0_i32_41 : BitVec 32 := 0#32
  let c1_i32_43 : BitVec 32 := 1#32
  let arg24 : BitVec 32 := Scf.iv c0_i32_41 c1_i32_43 k0_t2
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v697 : Index := Scalar.indexCast v692
  let c16_436 : Index := 16#32
  ![v697.toNat, 16]
def k0_off6 (k0_t2 : Fin k0_t2_loop.trips) (c0_i32_434 : BitVec 32) : Fin 2 → Nat :=
  let c0_i32_433 : BitVec 32 := 0#32
  let c0_i32_41 : BitVec 32 := 0#32
  let c1_i32_43 : BitVec 32 := 1#32
  let arg24 : BitVec 32 := Scf.iv c0_i32_41 c1_i32_43 k0_t2
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v701 : Index := Scalar.indexCast v692
  let c32_437 : Index := 32#32
  ![v701.toNat, 32]
def k0_off7 (k0_t2 : Fin k0_t2_loop.trips) (c0_i32_434 : BitVec 32) : Fin 2 → Nat :=
  let c0_i32_433 : BitVec 32 := 0#32
  let c0_i32_41 : BitVec 32 := 0#32
  let c1_i32_43 : BitVec 32 := 1#32
  let arg24 : BitVec 32 := Scf.iv c0_i32_41 c1_i32_43 k0_t2
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v705 : Index := Scalar.indexCast v692
  let c48_438 : Index := 48#32
  ![v705.toNat, 48]
def k0_off8 (k0_t2 : Fin k0_t2_loop.trips) (c0_i32_434 : BitVec 32) : Fin 2 → Nat :=
  let c0_i32_433 : BitVec 32 := 0#32
  let c0_i32_41 : BitVec 32 := 0#32
  let c1_i32_43 : BitVec 32 := 1#32
  let arg24 : BitVec 32 := Scf.iv c0_i32_41 c1_i32_43 k0_t2
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v709 : Index := Scalar.indexCast v692
  let c64_439 : Index := 64#32
  ![v709.toNat, 64]
def k0_off9 (k0_t2 : Fin k0_t2_loop.trips) (c0_i32_434 : BitVec 32) : Fin 2 → Nat :=
  let c0_i32_433 : BitVec 32 := 0#32
  let c0_i32_41 : BitVec 32 := 0#32
  let c1_i32_43 : BitVec 32 := 1#32
  let arg24 : BitVec 32 := Scf.iv c0_i32_41 c1_i32_43 k0_t2
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v713 : Index := Scalar.indexCast v692
  let c80_440 : Index := 80#32
  ![v713.toNat, 80]
def k0_off10 (k0_t2 : Fin k0_t2_loop.trips) (c0_i32_434 : BitVec 32) : Fin 2 → Nat :=
  let c0_i32_433 : BitVec 32 := 0#32
  let c0_i32_41 : BitVec 32 := 0#32
  let c1_i32_43 : BitVec 32 := 1#32
  let arg24 : BitVec 32 := Scf.iv c0_i32_41 c1_i32_43 k0_t2
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v717 : Index := Scalar.indexCast v692
  let c96_441 : Index := 96#32
  ![v717.toNat, 96]
def k0_off11 (k0_t2 : Fin k0_t2_loop.trips) (c0_i32_434 : BitVec 32) : Fin 2 → Nat :=
  let c0_i32_433 : BitVec 32 := 0#32
  let c0_i32_41 : BitVec 32 := 0#32
  let c1_i32_43 : BitVec 32 := 1#32
  let arg24 : BitVec 32 := Scf.iv c0_i32_41 c1_i32_43 k0_t2
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v721 : Index := Scalar.indexCast v692
  let c112_442 : Index := 112#32
  ![v721.toNat, 112]
def k0_off12 (k0_t1 : Fin k0_t1_loop.trips) (c0_i32_26 : BitVec 32) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let v26 : BitVec 32 := Scalar.addi v25 c0_i32_26
  let c1_i32_46 : BitVec 32 := 1#32
  let v47 : BitVec 32 := Scalar.muli v26 c1_i32_46
  let c0_i32_47 : BitVec 32 := 0#32
  let v48 : BitVec 32 := Scalar.addi v47 c0_i32_47
  let v49 : Index := Scalar.indexCast v48
  let c0 : Index := 0#32
  ![v49.toNat, 0]
def k0_off13 (k0_t1 : Fin k0_t1_loop.trips) (c0_i32_26 : BitVec 32) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let v26 : BitVec 32 := Scalar.addi v25 c0_i32_26
  let c1_i32_49 : BitVec 32 := 1#32
  let v55 : BitVec 32 := Scalar.muli v26 c1_i32_49
  let c0_i32_50 : BitVec 32 := 0#32
  let v56 : BitVec 32 := Scalar.addi v55 c0_i32_50
  let v57 : Index := Scalar.indexCast v56
  let c16 : Index := 16#32
  ![v57.toNat, 16]
def k0_off14 (k0_t1 : Fin k0_t1_loop.trips) (c0_i32_26 : BitVec 32) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let v26 : BitVec 32 := Scalar.addi v25 c0_i32_26
  let c1_i32_52 : BitVec 32 := 1#32
  let v63 : BitVec 32 := Scalar.muli v26 c1_i32_52
  let c0_i32_53 : BitVec 32 := 0#32
  let v64 : BitVec 32 := Scalar.addi v63 c0_i32_53
  let v65 : Index := Scalar.indexCast v64
  let c32 : Index := 32#32
  ![v65.toNat, 32]
def k0_off15 (k0_t1 : Fin k0_t1_loop.trips) (c0_i32_26 : BitVec 32) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let v26 : BitVec 32 := Scalar.addi v25 c0_i32_26
  let c1_i32_55 : BitVec 32 := 1#32
  let v71 : BitVec 32 := Scalar.muli v26 c1_i32_55
  let c0_i32_56 : BitVec 32 := 0#32
  let v72 : BitVec 32 := Scalar.addi v71 c0_i32_56
  let v73 : Index := Scalar.indexCast v72
  let c48 : Index := 48#32
  ![v73.toNat, 48]
def k0_off16 (k0_t1 : Fin k0_t1_loop.trips) (c0_i32_26 : BitVec 32) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let v26 : BitVec 32 := Scalar.addi v25 c0_i32_26
  let c1_i32_58 : BitVec 32 := 1#32
  let v79 : BitVec 32 := Scalar.muli v26 c1_i32_58
  let c0_i32_59 : BitVec 32 := 0#32
  let v80 : BitVec 32 := Scalar.addi v79 c0_i32_59
  let v81 : Index := Scalar.indexCast v80
  let c64 : Index := 64#32
  ![v81.toNat, 64]
def k0_off17 (k0_t1 : Fin k0_t1_loop.trips) (c0_i32_26 : BitVec 32) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let v26 : BitVec 32 := Scalar.addi v25 c0_i32_26
  let c1_i32_61 : BitVec 32 := 1#32
  let v87 : BitVec 32 := Scalar.muli v26 c1_i32_61
  let c0_i32_62 : BitVec 32 := 0#32
  let v88 : BitVec 32 := Scalar.addi v87 c0_i32_62
  let v89 : Index := Scalar.indexCast v88
  let c80 : Index := 80#32
  ![v89.toNat, 80]
def k0_off18 (k0_t1 : Fin k0_t1_loop.trips) (c0_i32_26 : BitVec 32) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let v26 : BitVec 32 := Scalar.addi v25 c0_i32_26
  let c1_i32_64 : BitVec 32 := 1#32
  let v95 : BitVec 32 := Scalar.muli v26 c1_i32_64
  let c0_i32_65 : BitVec 32 := 0#32
  let v96 : BitVec 32 := Scalar.addi v95 c0_i32_65
  let v97 : Index := Scalar.indexCast v96
  let c96 : Index := 96#32
  ![v97.toNat, 96]
def k0_off19 (k0_t1 : Fin k0_t1_loop.trips) (c0_i32_26 : BitVec 32) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let v26 : BitVec 32 := Scalar.addi v25 c0_i32_26
  let c1_i32_67 : BitVec 32 := 1#32
  let v103 : BitVec 32 := Scalar.muli v26 c1_i32_67
  let c0_i32_68 : BitVec 32 := 0#32
  let v104 : BitVec 32 := Scalar.addi v103 c0_i32_68
  let v105 : Index := Scalar.indexCast v104
  let c112 : Index := 112#32
  ![v105.toNat, 112]
def k0_cond2 (k0_t1 : Fin k0_t1_loop.trips) : BitVec 1 :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c1_i32_69 : BitVec 32 := 1#32
  let v109 : BitVec 32 := Scalar.addi v25 c1_i32_69
  let c8_i32_70 : BitVec 32 := 8#32
  let v110 : BitVec 32 := Scalar.addi v109 c8_i32_70
  let c1_i32_71 : BitVec 32 := 1#32
  let v111 : BitVec 32 := Scalar.subi v110 c1_i32_71
  let c128_i32_72 : BitVec 32 := 128#32
  let v112 : BitVec 1 := Scalar.cmpi .slt v111 c128_i32_72
  let v113 : BitVec 32 := Scalar.extui v112
  let c0_i32_73 : BitVec 32 := 0#32
  let v114 : BitVec 1 := Scalar.cmpi .ne v113 c0_i32_73
  v114

def k0_off20 (k0_t1 : Fin k0_t1_loop.trips) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c1_i32_69 : BitVec 32 := 1#32
  let v109 : BitVec 32 := Scalar.addi v25 c1_i32_69
  let c8_i32_70 : BitVec 32 := 8#32
  let v110 : BitVec 32 := Scalar.addi v109 c8_i32_70
  let c1_i32_71 : BitVec 32 := 1#32
  let v111 : BitVec 32 := Scalar.subi v110 c1_i32_71
  let c0_i32_432 : BitVec 32 := 0#32
  ![v111.toNat, 0]
@[reducible] def k0_t3_loop : Scf.Loop 32 :=
  let c0_i32_85 : BitVec 32 := 0#32
  let c8_i32_86 : BitVec 32 := 8#32
  let v126 : BitVec 32 := Scalar.addi c0_i32_85 c8_i32_86
  let c1_i32_87 : BitVec 32 := 1#32
  ⟨c0_i32_85, v126, c1_i32_87⟩
def k0_off21 (k0_t3 : Fin k0_t3_loop.trips) (c0_i32_434 : BitVec 32) : Fin 2 → Nat :=
  let c0_i32_433 : BitVec 32 := 0#32
  let c0_i32_85 : BitVec 32 := 0#32
  let c1_i32_87 : BitVec 32 := 1#32
  let arg24 : BitVec 32 := Scf.iv c0_i32_85 c1_i32_87 k0_t3
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v693 : Index := Scalar.indexCast v692
  let c0_435 : Index := 0#32
  ![v693.toNat, 0]
def k0_off22 (k0_t3 : Fin k0_t3_loop.trips) (c0_i32_434 : BitVec 32) : Fin 2 → Nat :=
  let c0_i32_433 : BitVec 32 := 0#32
  let c0_i32_85 : BitVec 32 := 0#32
  let c1_i32_87 : BitVec 32 := 1#32
  let arg24 : BitVec 32 := Scf.iv c0_i32_85 c1_i32_87 k0_t3
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v697 : Index := Scalar.indexCast v692
  let c16_436 : Index := 16#32
  ![v697.toNat, 16]
def k0_off23 (k0_t3 : Fin k0_t3_loop.trips) (c0_i32_434 : BitVec 32) : Fin 2 → Nat :=
  let c0_i32_433 : BitVec 32 := 0#32
  let c0_i32_85 : BitVec 32 := 0#32
  let c1_i32_87 : BitVec 32 := 1#32
  let arg24 : BitVec 32 := Scf.iv c0_i32_85 c1_i32_87 k0_t3
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v701 : Index := Scalar.indexCast v692
  let c32_437 : Index := 32#32
  ![v701.toNat, 32]
def k0_off24 (k0_t3 : Fin k0_t3_loop.trips) (c0_i32_434 : BitVec 32) : Fin 2 → Nat :=
  let c0_i32_433 : BitVec 32 := 0#32
  let c0_i32_85 : BitVec 32 := 0#32
  let c1_i32_87 : BitVec 32 := 1#32
  let arg24 : BitVec 32 := Scf.iv c0_i32_85 c1_i32_87 k0_t3
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v705 : Index := Scalar.indexCast v692
  let c48_438 : Index := 48#32
  ![v705.toNat, 48]
def k0_off25 (k0_t3 : Fin k0_t3_loop.trips) (c0_i32_434 : BitVec 32) : Fin 2 → Nat :=
  let c0_i32_433 : BitVec 32 := 0#32
  let c0_i32_85 : BitVec 32 := 0#32
  let c1_i32_87 : BitVec 32 := 1#32
  let arg24 : BitVec 32 := Scf.iv c0_i32_85 c1_i32_87 k0_t3
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v709 : Index := Scalar.indexCast v692
  let c64_439 : Index := 64#32
  ![v709.toNat, 64]
def k0_off26 (k0_t3 : Fin k0_t3_loop.trips) (c0_i32_434 : BitVec 32) : Fin 2 → Nat :=
  let c0_i32_433 : BitVec 32 := 0#32
  let c0_i32_85 : BitVec 32 := 0#32
  let c1_i32_87 : BitVec 32 := 1#32
  let arg24 : BitVec 32 := Scf.iv c0_i32_85 c1_i32_87 k0_t3
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v713 : Index := Scalar.indexCast v692
  let c80_440 : Index := 80#32
  ![v713.toNat, 80]
def k0_off27 (k0_t3 : Fin k0_t3_loop.trips) (c0_i32_434 : BitVec 32) : Fin 2 → Nat :=
  let c0_i32_433 : BitVec 32 := 0#32
  let c0_i32_85 : BitVec 32 := 0#32
  let c1_i32_87 : BitVec 32 := 1#32
  let arg24 : BitVec 32 := Scf.iv c0_i32_85 c1_i32_87 k0_t3
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v717 : Index := Scalar.indexCast v692
  let c96_441 : Index := 96#32
  ![v717.toNat, 96]
def k0_off28 (k0_t3 : Fin k0_t3_loop.trips) (c0_i32_434 : BitVec 32) : Fin 2 → Nat :=
  let c0_i32_433 : BitVec 32 := 0#32
  let c0_i32_85 : BitVec 32 := 0#32
  let c1_i32_87 : BitVec 32 := 1#32
  let arg24 : BitVec 32 := Scf.iv c0_i32_85 c1_i32_87 k0_t3
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v721 : Index := Scalar.indexCast v692
  let c112_442 : Index := 112#32
  ![v721.toNat, 112]
def k0_cond3 (k0_t1 : Fin k0_t1_loop.trips) : BitVec 1 :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c2_i32_121 : BitVec 32 := 2#32
  let v192 : BitVec 32 := Scalar.addi v25 c2_i32_121
  let c8_i32_122 : BitVec 32 := 8#32
  let v193 : BitVec 32 := Scalar.addi v192 c8_i32_122
  let c1_i32_123 : BitVec 32 := 1#32
  let v194 : BitVec 32 := Scalar.subi v193 c1_i32_123
  let c128_i32_124 : BitVec 32 := 128#32
  let v195 : BitVec 1 := Scalar.cmpi .slt v194 c128_i32_124
  let v196 : BitVec 32 := Scalar.extui v195
  let c0_i32_125 : BitVec 32 := 0#32
  let v197 : BitVec 1 := Scalar.cmpi .ne v196 c0_i32_125
  v197

def k0_off29 (k0_t1 : Fin k0_t1_loop.trips) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c2_i32_121 : BitVec 32 := 2#32
  let v192 : BitVec 32 := Scalar.addi v25 c2_i32_121
  let c8_i32_122 : BitVec 32 := 8#32
  let v193 : BitVec 32 := Scalar.addi v192 c8_i32_122
  let c1_i32_123 : BitVec 32 := 1#32
  let v194 : BitVec 32 := Scalar.subi v193 c1_i32_123
  let c0_i32_432 : BitVec 32 := 0#32
  ![v194.toNat, 0]
@[reducible] def k0_t4_loop : Scf.Loop 32 :=
  let c0_i32_137 : BitVec 32 := 0#32
  let c8_i32_138 : BitVec 32 := 8#32
  let v209 : BitVec 32 := Scalar.addi c0_i32_137 c8_i32_138
  let c1_i32_139 : BitVec 32 := 1#32
  ⟨c0_i32_137, v209, c1_i32_139⟩
def k0_off30 (k0_t4 : Fin k0_t4_loop.trips) (c0_i32_434 : BitVec 32) : Fin 2 → Nat :=
  let c0_i32_433 : BitVec 32 := 0#32
  let c0_i32_137 : BitVec 32 := 0#32
  let c1_i32_139 : BitVec 32 := 1#32
  let arg24 : BitVec 32 := Scf.iv c0_i32_137 c1_i32_139 k0_t4
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v693 : Index := Scalar.indexCast v692
  let c0_435 : Index := 0#32
  ![v693.toNat, 0]
def k0_off31 (k0_t4 : Fin k0_t4_loop.trips) (c0_i32_434 : BitVec 32) : Fin 2 → Nat :=
  let c0_i32_433 : BitVec 32 := 0#32
  let c0_i32_137 : BitVec 32 := 0#32
  let c1_i32_139 : BitVec 32 := 1#32
  let arg24 : BitVec 32 := Scf.iv c0_i32_137 c1_i32_139 k0_t4
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v697 : Index := Scalar.indexCast v692
  let c16_436 : Index := 16#32
  ![v697.toNat, 16]
def k0_off32 (k0_t4 : Fin k0_t4_loop.trips) (c0_i32_434 : BitVec 32) : Fin 2 → Nat :=
  let c0_i32_433 : BitVec 32 := 0#32
  let c0_i32_137 : BitVec 32 := 0#32
  let c1_i32_139 : BitVec 32 := 1#32
  let arg24 : BitVec 32 := Scf.iv c0_i32_137 c1_i32_139 k0_t4
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v701 : Index := Scalar.indexCast v692
  let c32_437 : Index := 32#32
  ![v701.toNat, 32]
def k0_off33 (k0_t4 : Fin k0_t4_loop.trips) (c0_i32_434 : BitVec 32) : Fin 2 → Nat :=
  let c0_i32_433 : BitVec 32 := 0#32
  let c0_i32_137 : BitVec 32 := 0#32
  let c1_i32_139 : BitVec 32 := 1#32
  let arg24 : BitVec 32 := Scf.iv c0_i32_137 c1_i32_139 k0_t4
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v705 : Index := Scalar.indexCast v692
  let c48_438 : Index := 48#32
  ![v705.toNat, 48]
def k0_off34 (k0_t4 : Fin k0_t4_loop.trips) (c0_i32_434 : BitVec 32) : Fin 2 → Nat :=
  let c0_i32_433 : BitVec 32 := 0#32
  let c0_i32_137 : BitVec 32 := 0#32
  let c1_i32_139 : BitVec 32 := 1#32
  let arg24 : BitVec 32 := Scf.iv c0_i32_137 c1_i32_139 k0_t4
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v709 : Index := Scalar.indexCast v692
  let c64_439 : Index := 64#32
  ![v709.toNat, 64]
def k0_off35 (k0_t4 : Fin k0_t4_loop.trips) (c0_i32_434 : BitVec 32) : Fin 2 → Nat :=
  let c0_i32_433 : BitVec 32 := 0#32
  let c0_i32_137 : BitVec 32 := 0#32
  let c1_i32_139 : BitVec 32 := 1#32
  let arg24 : BitVec 32 := Scf.iv c0_i32_137 c1_i32_139 k0_t4
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v713 : Index := Scalar.indexCast v692
  let c80_440 : Index := 80#32
  ![v713.toNat, 80]
def k0_off36 (k0_t4 : Fin k0_t4_loop.trips) (c0_i32_434 : BitVec 32) : Fin 2 → Nat :=
  let c0_i32_433 : BitVec 32 := 0#32
  let c0_i32_137 : BitVec 32 := 0#32
  let c1_i32_139 : BitVec 32 := 1#32
  let arg24 : BitVec 32 := Scf.iv c0_i32_137 c1_i32_139 k0_t4
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v717 : Index := Scalar.indexCast v692
  let c96_441 : Index := 96#32
  ![v717.toNat, 96]
def k0_off37 (k0_t4 : Fin k0_t4_loop.trips) (c0_i32_434 : BitVec 32) : Fin 2 → Nat :=
  let c0_i32_433 : BitVec 32 := 0#32
  let c0_i32_137 : BitVec 32 := 0#32
  let c1_i32_139 : BitVec 32 := 1#32
  let arg24 : BitVec 32 := Scf.iv c0_i32_137 c1_i32_139 k0_t4
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v721 : Index := Scalar.indexCast v692
  let c112_442 : Index := 112#32
  ![v721.toNat, 112]
def k0_cond4 (k0_t1 : Fin k0_t1_loop.trips) : BitVec 1 :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c3_i32_173 : BitVec 32 := 3#32
  let v275 : BitVec 32 := Scalar.addi v25 c3_i32_173
  let c8_i32_174 : BitVec 32 := 8#32
  let v276 : BitVec 32 := Scalar.addi v275 c8_i32_174
  let c1_i32_175 : BitVec 32 := 1#32
  let v277 : BitVec 32 := Scalar.subi v276 c1_i32_175
  let c128_i32_176 : BitVec 32 := 128#32
  let v278 : BitVec 1 := Scalar.cmpi .slt v277 c128_i32_176
  let v279 : BitVec 32 := Scalar.extui v278
  let c0_i32_177 : BitVec 32 := 0#32
  let v280 : BitVec 1 := Scalar.cmpi .ne v279 c0_i32_177
  v280

def k0_off38 (k0_t1 : Fin k0_t1_loop.trips) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c3_i32_173 : BitVec 32 := 3#32
  let v275 : BitVec 32 := Scalar.addi v25 c3_i32_173
  let c8_i32_174 : BitVec 32 := 8#32
  let v276 : BitVec 32 := Scalar.addi v275 c8_i32_174
  let c1_i32_175 : BitVec 32 := 1#32
  let v277 : BitVec 32 := Scalar.subi v276 c1_i32_175
  let c0_i32_432 : BitVec 32 := 0#32
  ![v277.toNat, 0]
@[reducible] def k0_t5_loop : Scf.Loop 32 :=
  let c0_i32_189 : BitVec 32 := 0#32
  let c8_i32_190 : BitVec 32 := 8#32
  let v292 : BitVec 32 := Scalar.addi c0_i32_189 c8_i32_190
  let c1_i32_191 : BitVec 32 := 1#32
  ⟨c0_i32_189, v292, c1_i32_191⟩
def k0_off39 (k0_t5 : Fin k0_t5_loop.trips) (c0_i32_434 : BitVec 32) : Fin 2 → Nat :=
  let c0_i32_433 : BitVec 32 := 0#32
  let c0_i32_189 : BitVec 32 := 0#32
  let c1_i32_191 : BitVec 32 := 1#32
  let arg24 : BitVec 32 := Scf.iv c0_i32_189 c1_i32_191 k0_t5
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v693 : Index := Scalar.indexCast v692
  let c0_435 : Index := 0#32
  ![v693.toNat, 0]
def k0_off40 (k0_t5 : Fin k0_t5_loop.trips) (c0_i32_434 : BitVec 32) : Fin 2 → Nat :=
  let c0_i32_433 : BitVec 32 := 0#32
  let c0_i32_189 : BitVec 32 := 0#32
  let c1_i32_191 : BitVec 32 := 1#32
  let arg24 : BitVec 32 := Scf.iv c0_i32_189 c1_i32_191 k0_t5
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v697 : Index := Scalar.indexCast v692
  let c16_436 : Index := 16#32
  ![v697.toNat, 16]
def k0_off41 (k0_t5 : Fin k0_t5_loop.trips) (c0_i32_434 : BitVec 32) : Fin 2 → Nat :=
  let c0_i32_433 : BitVec 32 := 0#32
  let c0_i32_189 : BitVec 32 := 0#32
  let c1_i32_191 : BitVec 32 := 1#32
  let arg24 : BitVec 32 := Scf.iv c0_i32_189 c1_i32_191 k0_t5
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v701 : Index := Scalar.indexCast v692
  let c32_437 : Index := 32#32
  ![v701.toNat, 32]
def k0_off42 (k0_t5 : Fin k0_t5_loop.trips) (c0_i32_434 : BitVec 32) : Fin 2 → Nat :=
  let c0_i32_433 : BitVec 32 := 0#32
  let c0_i32_189 : BitVec 32 := 0#32
  let c1_i32_191 : BitVec 32 := 1#32
  let arg24 : BitVec 32 := Scf.iv c0_i32_189 c1_i32_191 k0_t5
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v705 : Index := Scalar.indexCast v692
  let c48_438 : Index := 48#32
  ![v705.toNat, 48]
def k0_off43 (k0_t5 : Fin k0_t5_loop.trips) (c0_i32_434 : BitVec 32) : Fin 2 → Nat :=
  let c0_i32_433 : BitVec 32 := 0#32
  let c0_i32_189 : BitVec 32 := 0#32
  let c1_i32_191 : BitVec 32 := 1#32
  let arg24 : BitVec 32 := Scf.iv c0_i32_189 c1_i32_191 k0_t5
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v709 : Index := Scalar.indexCast v692
  let c64_439 : Index := 64#32
  ![v709.toNat, 64]
def k0_off44 (k0_t5 : Fin k0_t5_loop.trips) (c0_i32_434 : BitVec 32) : Fin 2 → Nat :=
  let c0_i32_433 : BitVec 32 := 0#32
  let c0_i32_189 : BitVec 32 := 0#32
  let c1_i32_191 : BitVec 32 := 1#32
  let arg24 : BitVec 32 := Scf.iv c0_i32_189 c1_i32_191 k0_t5
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v713 : Index := Scalar.indexCast v692
  let c80_440 : Index := 80#32
  ![v713.toNat, 80]
def k0_off45 (k0_t5 : Fin k0_t5_loop.trips) (c0_i32_434 : BitVec 32) : Fin 2 → Nat :=
  let c0_i32_433 : BitVec 32 := 0#32
  let c0_i32_189 : BitVec 32 := 0#32
  let c1_i32_191 : BitVec 32 := 1#32
  let arg24 : BitVec 32 := Scf.iv c0_i32_189 c1_i32_191 k0_t5
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v717 : Index := Scalar.indexCast v692
  let c96_441 : Index := 96#32
  ![v717.toNat, 96]
def k0_off46 (k0_t5 : Fin k0_t5_loop.trips) (c0_i32_434 : BitVec 32) : Fin 2 → Nat :=
  let c0_i32_433 : BitVec 32 := 0#32
  let c0_i32_189 : BitVec 32 := 0#32
  let c1_i32_191 : BitVec 32 := 1#32
  let arg24 : BitVec 32 := Scf.iv c0_i32_189 c1_i32_191 k0_t5
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v721 : Index := Scalar.indexCast v692
  let c112_442 : Index := 112#32
  ![v721.toNat, 112]
def k0_cond5 (k0_t1 : Fin k0_t1_loop.trips) : BitVec 1 :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c4_i32_225 : BitVec 32 := 4#32
  let v358 : BitVec 32 := Scalar.addi v25 c4_i32_225
  let c8_i32_226 : BitVec 32 := 8#32
  let v359 : BitVec 32 := Scalar.addi v358 c8_i32_226
  let c1_i32_227 : BitVec 32 := 1#32
  let v360 : BitVec 32 := Scalar.subi v359 c1_i32_227
  let c128_i32_228 : BitVec 32 := 128#32
  let v361 : BitVec 1 := Scalar.cmpi .slt v360 c128_i32_228
  let v362 : BitVec 32 := Scalar.extui v361
  let c0_i32_229 : BitVec 32 := 0#32
  let v363 : BitVec 1 := Scalar.cmpi .ne v362 c0_i32_229
  v363

def k0_off47 (k0_t1 : Fin k0_t1_loop.trips) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c4_i32_225 : BitVec 32 := 4#32
  let v358 : BitVec 32 := Scalar.addi v25 c4_i32_225
  let c8_i32_226 : BitVec 32 := 8#32
  let v359 : BitVec 32 := Scalar.addi v358 c8_i32_226
  let c1_i32_227 : BitVec 32 := 1#32
  let v360 : BitVec 32 := Scalar.subi v359 c1_i32_227
  let c0_i32_432 : BitVec 32 := 0#32
  ![v360.toNat, 0]
@[reducible] def k0_t6_loop : Scf.Loop 32 :=
  let c0_i32_241 : BitVec 32 := 0#32
  let c8_i32_242 : BitVec 32 := 8#32
  let v375 : BitVec 32 := Scalar.addi c0_i32_241 c8_i32_242
  let c1_i32_243 : BitVec 32 := 1#32
  ⟨c0_i32_241, v375, c1_i32_243⟩
def k0_off48 (k0_t6 : Fin k0_t6_loop.trips) (c0_i32_434 : BitVec 32) : Fin 2 → Nat :=
  let c0_i32_433 : BitVec 32 := 0#32
  let c0_i32_241 : BitVec 32 := 0#32
  let c1_i32_243 : BitVec 32 := 1#32
  let arg24 : BitVec 32 := Scf.iv c0_i32_241 c1_i32_243 k0_t6
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v693 : Index := Scalar.indexCast v692
  let c0_435 : Index := 0#32
  ![v693.toNat, 0]
def k0_off49 (k0_t6 : Fin k0_t6_loop.trips) (c0_i32_434 : BitVec 32) : Fin 2 → Nat :=
  let c0_i32_433 : BitVec 32 := 0#32
  let c0_i32_241 : BitVec 32 := 0#32
  let c1_i32_243 : BitVec 32 := 1#32
  let arg24 : BitVec 32 := Scf.iv c0_i32_241 c1_i32_243 k0_t6
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v697 : Index := Scalar.indexCast v692
  let c16_436 : Index := 16#32
  ![v697.toNat, 16]
def k0_off50 (k0_t6 : Fin k0_t6_loop.trips) (c0_i32_434 : BitVec 32) : Fin 2 → Nat :=
  let c0_i32_433 : BitVec 32 := 0#32
  let c0_i32_241 : BitVec 32 := 0#32
  let c1_i32_243 : BitVec 32 := 1#32
  let arg24 : BitVec 32 := Scf.iv c0_i32_241 c1_i32_243 k0_t6
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v701 : Index := Scalar.indexCast v692
  let c32_437 : Index := 32#32
  ![v701.toNat, 32]
def k0_off51 (k0_t6 : Fin k0_t6_loop.trips) (c0_i32_434 : BitVec 32) : Fin 2 → Nat :=
  let c0_i32_433 : BitVec 32 := 0#32
  let c0_i32_241 : BitVec 32 := 0#32
  let c1_i32_243 : BitVec 32 := 1#32
  let arg24 : BitVec 32 := Scf.iv c0_i32_241 c1_i32_243 k0_t6
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v705 : Index := Scalar.indexCast v692
  let c48_438 : Index := 48#32
  ![v705.toNat, 48]
def k0_off52 (k0_t6 : Fin k0_t6_loop.trips) (c0_i32_434 : BitVec 32) : Fin 2 → Nat :=
  let c0_i32_433 : BitVec 32 := 0#32
  let c0_i32_241 : BitVec 32 := 0#32
  let c1_i32_243 : BitVec 32 := 1#32
  let arg24 : BitVec 32 := Scf.iv c0_i32_241 c1_i32_243 k0_t6
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v709 : Index := Scalar.indexCast v692
  let c64_439 : Index := 64#32
  ![v709.toNat, 64]
def k0_off53 (k0_t6 : Fin k0_t6_loop.trips) (c0_i32_434 : BitVec 32) : Fin 2 → Nat :=
  let c0_i32_433 : BitVec 32 := 0#32
  let c0_i32_241 : BitVec 32 := 0#32
  let c1_i32_243 : BitVec 32 := 1#32
  let arg24 : BitVec 32 := Scf.iv c0_i32_241 c1_i32_243 k0_t6
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v713 : Index := Scalar.indexCast v692
  let c80_440 : Index := 80#32
  ![v713.toNat, 80]
def k0_off54 (k0_t6 : Fin k0_t6_loop.trips) (c0_i32_434 : BitVec 32) : Fin 2 → Nat :=
  let c0_i32_433 : BitVec 32 := 0#32
  let c0_i32_241 : BitVec 32 := 0#32
  let c1_i32_243 : BitVec 32 := 1#32
  let arg24 : BitVec 32 := Scf.iv c0_i32_241 c1_i32_243 k0_t6
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v717 : Index := Scalar.indexCast v692
  let c96_441 : Index := 96#32
  ![v717.toNat, 96]
def k0_off55 (k0_t6 : Fin k0_t6_loop.trips) (c0_i32_434 : BitVec 32) : Fin 2 → Nat :=
  let c0_i32_433 : BitVec 32 := 0#32
  let c0_i32_241 : BitVec 32 := 0#32
  let c1_i32_243 : BitVec 32 := 1#32
  let arg24 : BitVec 32 := Scf.iv c0_i32_241 c1_i32_243 k0_t6
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v721 : Index := Scalar.indexCast v692
  let c112_442 : Index := 112#32
  ![v721.toNat, 112]
def k0_cond6 (k0_t1 : Fin k0_t1_loop.trips) : BitVec 1 :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c5_i32_277 : BitVec 32 := 5#32
  let v441 : BitVec 32 := Scalar.addi v25 c5_i32_277
  let c8_i32_278 : BitVec 32 := 8#32
  let v442 : BitVec 32 := Scalar.addi v441 c8_i32_278
  let c1_i32_279 : BitVec 32 := 1#32
  let v443 : BitVec 32 := Scalar.subi v442 c1_i32_279
  let c128_i32_280 : BitVec 32 := 128#32
  let v444 : BitVec 1 := Scalar.cmpi .slt v443 c128_i32_280
  let v445 : BitVec 32 := Scalar.extui v444
  let c0_i32_281 : BitVec 32 := 0#32
  let v446 : BitVec 1 := Scalar.cmpi .ne v445 c0_i32_281
  v446

def k0_off56 (k0_t1 : Fin k0_t1_loop.trips) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c5_i32_277 : BitVec 32 := 5#32
  let v441 : BitVec 32 := Scalar.addi v25 c5_i32_277
  let c8_i32_278 : BitVec 32 := 8#32
  let v442 : BitVec 32 := Scalar.addi v441 c8_i32_278
  let c1_i32_279 : BitVec 32 := 1#32
  let v443 : BitVec 32 := Scalar.subi v442 c1_i32_279
  let c0_i32_432 : BitVec 32 := 0#32
  ![v443.toNat, 0]
@[reducible] def k0_t7_loop : Scf.Loop 32 :=
  let c0_i32_293 : BitVec 32 := 0#32
  let c8_i32_294 : BitVec 32 := 8#32
  let v458 : BitVec 32 := Scalar.addi c0_i32_293 c8_i32_294
  let c1_i32_295 : BitVec 32 := 1#32
  ⟨c0_i32_293, v458, c1_i32_295⟩
def k0_off57 (k0_t7 : Fin k0_t7_loop.trips) (c0_i32_434 : BitVec 32) : Fin 2 → Nat :=
  let c0_i32_433 : BitVec 32 := 0#32
  let c0_i32_293 : BitVec 32 := 0#32
  let c1_i32_295 : BitVec 32 := 1#32
  let arg24 : BitVec 32 := Scf.iv c0_i32_293 c1_i32_295 k0_t7
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v693 : Index := Scalar.indexCast v692
  let c0_435 : Index := 0#32
  ![v693.toNat, 0]
def k0_off58 (k0_t7 : Fin k0_t7_loop.trips) (c0_i32_434 : BitVec 32) : Fin 2 → Nat :=
  let c0_i32_433 : BitVec 32 := 0#32
  let c0_i32_293 : BitVec 32 := 0#32
  let c1_i32_295 : BitVec 32 := 1#32
  let arg24 : BitVec 32 := Scf.iv c0_i32_293 c1_i32_295 k0_t7
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v697 : Index := Scalar.indexCast v692
  let c16_436 : Index := 16#32
  ![v697.toNat, 16]
def k0_off59 (k0_t7 : Fin k0_t7_loop.trips) (c0_i32_434 : BitVec 32) : Fin 2 → Nat :=
  let c0_i32_433 : BitVec 32 := 0#32
  let c0_i32_293 : BitVec 32 := 0#32
  let c1_i32_295 : BitVec 32 := 1#32
  let arg24 : BitVec 32 := Scf.iv c0_i32_293 c1_i32_295 k0_t7
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v701 : Index := Scalar.indexCast v692
  let c32_437 : Index := 32#32
  ![v701.toNat, 32]
def k0_off60 (k0_t7 : Fin k0_t7_loop.trips) (c0_i32_434 : BitVec 32) : Fin 2 → Nat :=
  let c0_i32_433 : BitVec 32 := 0#32
  let c0_i32_293 : BitVec 32 := 0#32
  let c1_i32_295 : BitVec 32 := 1#32
  let arg24 : BitVec 32 := Scf.iv c0_i32_293 c1_i32_295 k0_t7
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v705 : Index := Scalar.indexCast v692
  let c48_438 : Index := 48#32
  ![v705.toNat, 48]
def k0_off61 (k0_t7 : Fin k0_t7_loop.trips) (c0_i32_434 : BitVec 32) : Fin 2 → Nat :=
  let c0_i32_433 : BitVec 32 := 0#32
  let c0_i32_293 : BitVec 32 := 0#32
  let c1_i32_295 : BitVec 32 := 1#32
  let arg24 : BitVec 32 := Scf.iv c0_i32_293 c1_i32_295 k0_t7
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v709 : Index := Scalar.indexCast v692
  let c64_439 : Index := 64#32
  ![v709.toNat, 64]
def k0_off62 (k0_t7 : Fin k0_t7_loop.trips) (c0_i32_434 : BitVec 32) : Fin 2 → Nat :=
  let c0_i32_433 : BitVec 32 := 0#32
  let c0_i32_293 : BitVec 32 := 0#32
  let c1_i32_295 : BitVec 32 := 1#32
  let arg24 : BitVec 32 := Scf.iv c0_i32_293 c1_i32_295 k0_t7
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v713 : Index := Scalar.indexCast v692
  let c80_440 : Index := 80#32
  ![v713.toNat, 80]
def k0_off63 (k0_t7 : Fin k0_t7_loop.trips) (c0_i32_434 : BitVec 32) : Fin 2 → Nat :=
  let c0_i32_433 : BitVec 32 := 0#32
  let c0_i32_293 : BitVec 32 := 0#32
  let c1_i32_295 : BitVec 32 := 1#32
  let arg24 : BitVec 32 := Scf.iv c0_i32_293 c1_i32_295 k0_t7
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v717 : Index := Scalar.indexCast v692
  let c96_441 : Index := 96#32
  ![v717.toNat, 96]
def k0_off64 (k0_t7 : Fin k0_t7_loop.trips) (c0_i32_434 : BitVec 32) : Fin 2 → Nat :=
  let c0_i32_433 : BitVec 32 := 0#32
  let c0_i32_293 : BitVec 32 := 0#32
  let c1_i32_295 : BitVec 32 := 1#32
  let arg24 : BitVec 32 := Scf.iv c0_i32_293 c1_i32_295 k0_t7
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v721 : Index := Scalar.indexCast v692
  let c112_442 : Index := 112#32
  ![v721.toNat, 112]
def k0_cond7 (k0_t1 : Fin k0_t1_loop.trips) : BitVec 1 :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c6_i32_329 : BitVec 32 := 6#32
  let v524 : BitVec 32 := Scalar.addi v25 c6_i32_329
  let c8_i32_330 : BitVec 32 := 8#32
  let v525 : BitVec 32 := Scalar.addi v524 c8_i32_330
  let c1_i32_331 : BitVec 32 := 1#32
  let v526 : BitVec 32 := Scalar.subi v525 c1_i32_331
  let c128_i32_332 : BitVec 32 := 128#32
  let v527 : BitVec 1 := Scalar.cmpi .slt v526 c128_i32_332
  let v528 : BitVec 32 := Scalar.extui v527
  let c0_i32_333 : BitVec 32 := 0#32
  let v529 : BitVec 1 := Scalar.cmpi .ne v528 c0_i32_333
  v529

def k0_off65 (k0_t1 : Fin k0_t1_loop.trips) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c6_i32_329 : BitVec 32 := 6#32
  let v524 : BitVec 32 := Scalar.addi v25 c6_i32_329
  let c8_i32_330 : BitVec 32 := 8#32
  let v525 : BitVec 32 := Scalar.addi v524 c8_i32_330
  let c1_i32_331 : BitVec 32 := 1#32
  let v526 : BitVec 32 := Scalar.subi v525 c1_i32_331
  let c0_i32_432 : BitVec 32 := 0#32
  ![v526.toNat, 0]
@[reducible] def k0_t8_loop : Scf.Loop 32 :=
  let c0_i32_345 : BitVec 32 := 0#32
  let c8_i32_346 : BitVec 32 := 8#32
  let v541 : BitVec 32 := Scalar.addi c0_i32_345 c8_i32_346
  let c1_i32_347 : BitVec 32 := 1#32
  ⟨c0_i32_345, v541, c1_i32_347⟩
def k0_off66 (k0_t8 : Fin k0_t8_loop.trips) (c0_i32_434 : BitVec 32) : Fin 2 → Nat :=
  let c0_i32_433 : BitVec 32 := 0#32
  let c0_i32_345 : BitVec 32 := 0#32
  let c1_i32_347 : BitVec 32 := 1#32
  let arg24 : BitVec 32 := Scf.iv c0_i32_345 c1_i32_347 k0_t8
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v693 : Index := Scalar.indexCast v692
  let c0_435 : Index := 0#32
  ![v693.toNat, 0]
def k0_off67 (k0_t8 : Fin k0_t8_loop.trips) (c0_i32_434 : BitVec 32) : Fin 2 → Nat :=
  let c0_i32_433 : BitVec 32 := 0#32
  let c0_i32_345 : BitVec 32 := 0#32
  let c1_i32_347 : BitVec 32 := 1#32
  let arg24 : BitVec 32 := Scf.iv c0_i32_345 c1_i32_347 k0_t8
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v697 : Index := Scalar.indexCast v692
  let c16_436 : Index := 16#32
  ![v697.toNat, 16]
def k0_off68 (k0_t8 : Fin k0_t8_loop.trips) (c0_i32_434 : BitVec 32) : Fin 2 → Nat :=
  let c0_i32_433 : BitVec 32 := 0#32
  let c0_i32_345 : BitVec 32 := 0#32
  let c1_i32_347 : BitVec 32 := 1#32
  let arg24 : BitVec 32 := Scf.iv c0_i32_345 c1_i32_347 k0_t8
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v701 : Index := Scalar.indexCast v692
  let c32_437 : Index := 32#32
  ![v701.toNat, 32]
def k0_off69 (k0_t8 : Fin k0_t8_loop.trips) (c0_i32_434 : BitVec 32) : Fin 2 → Nat :=
  let c0_i32_433 : BitVec 32 := 0#32
  let c0_i32_345 : BitVec 32 := 0#32
  let c1_i32_347 : BitVec 32 := 1#32
  let arg24 : BitVec 32 := Scf.iv c0_i32_345 c1_i32_347 k0_t8
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v705 : Index := Scalar.indexCast v692
  let c48_438 : Index := 48#32
  ![v705.toNat, 48]
def k0_off70 (k0_t8 : Fin k0_t8_loop.trips) (c0_i32_434 : BitVec 32) : Fin 2 → Nat :=
  let c0_i32_433 : BitVec 32 := 0#32
  let c0_i32_345 : BitVec 32 := 0#32
  let c1_i32_347 : BitVec 32 := 1#32
  let arg24 : BitVec 32 := Scf.iv c0_i32_345 c1_i32_347 k0_t8
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v709 : Index := Scalar.indexCast v692
  let c64_439 : Index := 64#32
  ![v709.toNat, 64]
def k0_off71 (k0_t8 : Fin k0_t8_loop.trips) (c0_i32_434 : BitVec 32) : Fin 2 → Nat :=
  let c0_i32_433 : BitVec 32 := 0#32
  let c0_i32_345 : BitVec 32 := 0#32
  let c1_i32_347 : BitVec 32 := 1#32
  let arg24 : BitVec 32 := Scf.iv c0_i32_345 c1_i32_347 k0_t8
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v713 : Index := Scalar.indexCast v692
  let c80_440 : Index := 80#32
  ![v713.toNat, 80]
def k0_off72 (k0_t8 : Fin k0_t8_loop.trips) (c0_i32_434 : BitVec 32) : Fin 2 → Nat :=
  let c0_i32_433 : BitVec 32 := 0#32
  let c0_i32_345 : BitVec 32 := 0#32
  let c1_i32_347 : BitVec 32 := 1#32
  let arg24 : BitVec 32 := Scf.iv c0_i32_345 c1_i32_347 k0_t8
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v717 : Index := Scalar.indexCast v692
  let c96_441 : Index := 96#32
  ![v717.toNat, 96]
def k0_off73 (k0_t8 : Fin k0_t8_loop.trips) (c0_i32_434 : BitVec 32) : Fin 2 → Nat :=
  let c0_i32_433 : BitVec 32 := 0#32
  let c0_i32_345 : BitVec 32 := 0#32
  let c1_i32_347 : BitVec 32 := 1#32
  let arg24 : BitVec 32 := Scf.iv c0_i32_345 c1_i32_347 k0_t8
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v721 : Index := Scalar.indexCast v692
  let c112_442 : Index := 112#32
  ![v721.toNat, 112]
def k0_cond8 (k0_t1 : Fin k0_t1_loop.trips) : BitVec 1 :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c7_i32 : BitVec 32 := 7#32
  let v607 : BitVec 32 := Scalar.addi v25 c7_i32
  let c8_i32_381 : BitVec 32 := 8#32
  let v608 : BitVec 32 := Scalar.addi v607 c8_i32_381
  let c1_i32_382 : BitVec 32 := 1#32
  let v609 : BitVec 32 := Scalar.subi v608 c1_i32_382
  let c128_i32_383 : BitVec 32 := 128#32
  let v610 : BitVec 1 := Scalar.cmpi .slt v609 c128_i32_383
  let v611 : BitVec 32 := Scalar.extui v610
  let c0_i32_384 : BitVec 32 := 0#32
  let v612 : BitVec 1 := Scalar.cmpi .ne v611 c0_i32_384
  v612

def k0_off74 (k0_t1 : Fin k0_t1_loop.trips) : Fin 2 → Nat :=
  let c8_i32 : BitVec 32 := 8#32
  let c0_i32_23 : BitVec 32 := 0#32
  let c1_i32_24 : BitVec 32 := 1#32
  let arg23 : BitVec 32 := Scf.iv c0_i32_23 c1_i32_24 k0_t1
  let v25 : BitVec 32 := Scalar.muli c8_i32 arg23
  let c7_i32 : BitVec 32 := 7#32
  let v607 : BitVec 32 := Scalar.addi v25 c7_i32
  let c8_i32_381 : BitVec 32 := 8#32
  let v608 : BitVec 32 := Scalar.addi v607 c8_i32_381
  let c1_i32_382 : BitVec 32 := 1#32
  let v609 : BitVec 32 := Scalar.subi v608 c1_i32_382
  let c0_i32_432 : BitVec 32 := 0#32
  ![v609.toNat, 0]
@[reducible] def k0_t9_loop : Scf.Loop 32 :=
  let c0_i32_396 : BitVec 32 := 0#32
  let c8_i32_397 : BitVec 32 := 8#32
  let v624 : BitVec 32 := Scalar.addi c0_i32_396 c8_i32_397
  let c1_i32_398 : BitVec 32 := 1#32
  ⟨c0_i32_396, v624, c1_i32_398⟩
def k0_off75 (k0_t9 : Fin k0_t9_loop.trips) (c0_i32_434 : BitVec 32) : Fin 2 → Nat :=
  let c0_i32_433 : BitVec 32 := 0#32
  let c0_i32_396 : BitVec 32 := 0#32
  let c1_i32_398 : BitVec 32 := 1#32
  let arg24 : BitVec 32 := Scf.iv c0_i32_396 c1_i32_398 k0_t9
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v693 : Index := Scalar.indexCast v692
  let c0_435 : Index := 0#32
  ![v693.toNat, 0]
def k0_off76 (k0_t9 : Fin k0_t9_loop.trips) (c0_i32_434 : BitVec 32) : Fin 2 → Nat :=
  let c0_i32_433 : BitVec 32 := 0#32
  let c0_i32_396 : BitVec 32 := 0#32
  let c1_i32_398 : BitVec 32 := 1#32
  let arg24 : BitVec 32 := Scf.iv c0_i32_396 c1_i32_398 k0_t9
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v697 : Index := Scalar.indexCast v692
  let c16_436 : Index := 16#32
  ![v697.toNat, 16]
def k0_off77 (k0_t9 : Fin k0_t9_loop.trips) (c0_i32_434 : BitVec 32) : Fin 2 → Nat :=
  let c0_i32_433 : BitVec 32 := 0#32
  let c0_i32_396 : BitVec 32 := 0#32
  let c1_i32_398 : BitVec 32 := 1#32
  let arg24 : BitVec 32 := Scf.iv c0_i32_396 c1_i32_398 k0_t9
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v701 : Index := Scalar.indexCast v692
  let c32_437 : Index := 32#32
  ![v701.toNat, 32]
def k0_off78 (k0_t9 : Fin k0_t9_loop.trips) (c0_i32_434 : BitVec 32) : Fin 2 → Nat :=
  let c0_i32_433 : BitVec 32 := 0#32
  let c0_i32_396 : BitVec 32 := 0#32
  let c1_i32_398 : BitVec 32 := 1#32
  let arg24 : BitVec 32 := Scf.iv c0_i32_396 c1_i32_398 k0_t9
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v705 : Index := Scalar.indexCast v692
  let c48_438 : Index := 48#32
  ![v705.toNat, 48]
def k0_off79 (k0_t9 : Fin k0_t9_loop.trips) (c0_i32_434 : BitVec 32) : Fin 2 → Nat :=
  let c0_i32_433 : BitVec 32 := 0#32
  let c0_i32_396 : BitVec 32 := 0#32
  let c1_i32_398 : BitVec 32 := 1#32
  let arg24 : BitVec 32 := Scf.iv c0_i32_396 c1_i32_398 k0_t9
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v709 : Index := Scalar.indexCast v692
  let c64_439 : Index := 64#32
  ![v709.toNat, 64]
def k0_off80 (k0_t9 : Fin k0_t9_loop.trips) (c0_i32_434 : BitVec 32) : Fin 2 → Nat :=
  let c0_i32_433 : BitVec 32 := 0#32
  let c0_i32_396 : BitVec 32 := 0#32
  let c1_i32_398 : BitVec 32 := 1#32
  let arg24 : BitVec 32 := Scf.iv c0_i32_396 c1_i32_398 k0_t9
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v713 : Index := Scalar.indexCast v692
  let c80_440 : Index := 80#32
  ![v713.toNat, 80]
def k0_off81 (k0_t9 : Fin k0_t9_loop.trips) (c0_i32_434 : BitVec 32) : Fin 2 → Nat :=
  let c0_i32_433 : BitVec 32 := 0#32
  let c0_i32_396 : BitVec 32 := 0#32
  let c1_i32_398 : BitVec 32 := 1#32
  let arg24 : BitVec 32 := Scf.iv c0_i32_396 c1_i32_398 k0_t9
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v717 : Index := Scalar.indexCast v692
  let c96_441 : Index := 96#32
  ![v717.toNat, 96]
def k0_off82 (k0_t9 : Fin k0_t9_loop.trips) (c0_i32_434 : BitVec 32) : Fin 2 → Nat :=
  let c0_i32_433 : BitVec 32 := 0#32
  let c0_i32_396 : BitVec 32 := 0#32
  let c1_i32_398 : BitVec 32 := 1#32
  let arg24 : BitVec 32 := Scf.iv c0_i32_396 c1_i32_398 k0_t9
  let c8_i32_432 : BitVec 32 := 8#32
  let v690 : BitVec 32 := Scalar.muli arg24 c8_i32_432
  let v691 : BitVec 32 := Scalar.addi c0_i32_433 v690
  let v692 : BitVec 32 := Scalar.addi v691 c0_i32_434
  let v721 : Index := Scalar.indexCast v692
  let c112_442 : Index := 112#32
  ![v721.toNat, 112]
def k0_off83 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v24 : BitVec 32 := Scalar.muli v1 c128_i32
  let c0_i32_26_r1 : BitVec 32 := 0#32
  ![v24.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S4096x64 : Shape := ⟨2, ![4096, 64]⟩
abbrev S_ : Shape := ⟨0, ![]⟩
abbrev S4096x64x1 : Shape := ⟨3, ![4096, 64, 1]⟩
abbrev S1 : Shape := ⟨1, ![1]⟩
abbrev S1x1x1 : Shape := ⟨3, ![1, 1, 1]⟩
abbrev S4096x64x128 : Shape := ⟨3, ![4096, 64, 128]⟩
abbrev S4096x128 : Shape := ⟨2, ![4096, 128]⟩

abbrev nBuf : Space → Nat
  | .hbm => 30
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S4096x64, .i32⟩
  | .hbm, ⟨2, _⟩ => ⟨S_, .i32⟩
  | .hbm, ⟨3, _⟩ => ⟨S4096x64, .i32⟩
  | .hbm, ⟨4, _⟩ => ⟨S4096x64, .i1⟩
  | .hbm, ⟨5, _⟩ => ⟨S_, .i32⟩
  | .hbm, ⟨6, _⟩ => ⟨S4096x64, .i32⟩
  | .hbm, ⟨7, _⟩ => ⟨S4096x64, .i32⟩
  | .hbm, ⟨8, _⟩ => ⟨S4096x64, .i32⟩
  | .hbm, ⟨9, _⟩ => ⟨S4096x64x1, .i32⟩
  | .hbm, ⟨10, _⟩ => ⟨S1, .i32⟩
  | .hbm, ⟨11, _⟩ => ⟨S_, .i32⟩
  | .hbm, ⟨12, _⟩ => ⟨S4096x64x1, .i32⟩
  | .hbm, ⟨13, _⟩ => ⟨S4096x64x1, .i1⟩
  | .hbm, ⟨14, _⟩ => ⟨S1x1x1, .i32⟩
  | .hbm, ⟨15, _⟩ => ⟨S4096x64x1, .i32⟩
  | .hbm, ⟨16, _⟩ => ⟨S4096x64x1, .i1⟩
  | .hbm, ⟨17, _⟩ => ⟨S4096x64x1, .i1⟩
  | .hbm, ⟨18, _⟩ => ⟨S_, .i1⟩
  | .hbm, ⟨19, _⟩ => ⟨S4096x64, .i1⟩
  | .hbm, ⟨20, _⟩ => ⟨S4096x64x128, .f32⟩
  | .hbm, ⟨21, _⟩ => ⟨S4096x64x128, .i1⟩
  | .hbm, ⟨22, _⟩ => ⟨S_, .f32⟩
  | .hbm, ⟨23, _⟩ => ⟨S4096x64x128, .f32⟩
  | .hbm, ⟨24, _⟩ => ⟨S4096x64x128, .f32⟩
  | .hbm, ⟨25, _⟩ => ⟨S_, .f32⟩
  | .hbm, ⟨26, _⟩ => ⟨S4096x128, .f32⟩
  | .hbm, ⟨27, _⟩ => ⟨S_, .f32⟩
  | .hbm, ⟨28, _⟩ => ⟨S4096x128, .f32⟩
  | .hbm, ⟨29, _⟩ => ⟨S4096x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩

abbrev nD : Nat := 1
abbrev τ : Topo := Topo.v7x

variable {F : FTy → Type} [FloatOps F]
-- ==== Proof.Phase.lean ====
/-
  The body of one tile, restated over a generic row buffer.  The printed program holds eight copies of one text, one for
  each row buffer: wait for a gather, add up the sixty-four rows that it brought, scale the sum and store it.  Here that
  text is written once, over any buffer and any semaphore, and the printed trip is shown to be eight uses of it.
-/
module

public import proofs.«01_k».proof.Defs
public import proofs.«01_k».proof.Proof.Gen.KernelIdeal
public import proofs.«01_k».proof.Proof.Gen.KernelIdeal.Skeleton

@[expose] public section

noncomputable section

namespace Cert.KernelIdeal.Own

open Idealize.ShloMosaic Idealize.SL.Sem
open Cert.KernelIdeal.Gen

variable {F : FTy → Type} [FloatOps F] {c : Fin τ.nSC} {j : Fin τ.nSub}

/-- The programs of one tile. -/
abbrev TileProg (F : FTy → Type) [FloatOps F] (c : Fin τ.nSC) (j : Fin τ.nSub) (α : Type) :=
  Prog (TpuEff nD τ sig (Elt F) Λ₀ (.scVector c j)) α

/-- One row of partial sums: eight groups of sixteen lanes. -/
abbrev Row (F : FTy → Type) := FVec F S16 .f32 × FVec F S16 .f32 × FVec F S16 .f32 × FVec F S16 .f32
  × FVec F S16 .f32 × FVec F S16 .f32 × FVec F S16 .f32 × FVec F S16 .f32

/-- Sixteen lanes of a row added to a group of the partial sums. -/
def addLanes (a : FVec F S16 .f32) (x : Vec F S1x16 .f32) : FVec F S16 .f32 :=
  addf a (shapeCast S16 x shapeCasts_S1x16_S16)

/-- Row `8 t + u` of the buffer added to the partial sums. -/
def addRow (M : Memref sig .scVector .vmem S64x128 .f32) (t : Fin k0_t2_loop.trips) (u : Fin 8) (a : Row F) :
    TileProg F c j (Row F) := do
  let x0 : Vec F S1x16 .f32 ← Prog.lift (.load M (Rect.unit (s := S64x128) (k0_off4 t (BitVec.ofNat 32 u.val)) S1x16.size (k0_off4_inb t u)).toLoadRect (View.loadsAt_vmem h_S1x16))
  let x1 : Vec F S1x16 .f32 ← Prog.lift (.load M (Rect.unit (s := S64x128) (k0_off5 t (BitVec.ofNat 32 u.val)) S1x16.size (k0_off5_inb t u)).toLoadRect (View.loadsAt_vmem h_S1x16))
  let x2 : Vec F S1x16 .f32 ← Prog.lift (.load M (Rect.unit (s := S64x128) (k0_off6 t (BitVec.ofNat 32 u.val)) S1x16.size (k0_off6_inb t u)).toLoadRect (View.loadsAt_vmem h_S1x16))
  let x3 : Vec F S1x16 .f32 ← Prog.lift (.load M (Rect.unit (s := S64x128) (k0_off7 t (BitVec.ofNat 32 u.val)) S1x16.size (k0_off7_inb t u)).toLoadRect (View.loadsAt_vmem h_S1x16))
  let x4 : Vec F S1x16 .f32 ← Prog.lift (.load M (Rect.unit (s := S64x128) (k0_off8 t (BitVec.ofNat 32 u.val)) S1x16.size (k0_off8_inb t u)).toLoadRect (View.loadsAt_vmem h_S1x16))
  let x5 : Vec F S1x16 .f32 ← Prog.lift (.load M (Rect.unit (s := S64x128) (k0_off9 t (BitVec.ofNat 32 u.val)) S1x16.size (k0_off9_inb t u)).toLoadRect (View.loadsAt_vmem h_S1x16))
  let x6 : Vec F S1x16 .f32 ← Prog.lift (.load M (Rect.unit (s := S64x128) (k0_off10 t (BitVec.ofNat 32 u.val)) S1x16.size (k0_off10_inb t u)).toLoadRect (View.loadsAt_vmem h_S1x16))
  let x7 : Vec F S1x16 .f32 ← Prog.lift (.load M (Rect.unit (s := S64x128) (k0_off11 t (BitVec.ofNat 32 u.val)) S1x16.size (k0_off11_inb t u)).toLoadRect (View.loadsAt_vmem h_S1x16))
  pure (addLanes a.1 x0, addLanes a.2.1 x1, addLanes a.2.2.1 x2, addLanes a.2.2.2.1 x3, addLanes a.2.2.2.2.1 x4,
    addLanes a.2.2.2.2.2.1 x5, addLanes a.2.2.2.2.2.2.1 x6, addLanes a.2.2.2.2.2.2.2 x7)

/-- Eight rows of the buffer added to the partial sums: one trip of the loop over the rows. -/
def addRows (M : Memref sig .scVector .vmem S64x128 .f32) (t : Fin k0_t2_loop.trips) (a : Row F) : TileProg F c j (Row F) := do
  let a ← addRow M t 0 a
  let a ← addRow M t 1 a
  let a ← addRow M t 2 a
  let a ← addRow M t 3 a
  let a ← addRow M t 4 a
  let a ← addRow M t 5 a
  let a ← addRow M t 6 a
  addRow M t 7 a

/-- The partial sums before any row. -/
def zeroRow : Row F := ⟨k0_pay387 (F := F), k0_pay387 (F := F), k0_pay387 (F := F), k0_pay387 (F := F), k0_pay387 (F := F),
  k0_pay387 (F := F), k0_pay387 (F := F), k0_pay387 (F := F)⟩

/-- The sum of all the rows of the buffer. -/
def sumRows (M : Memref sig .scVector .vmem S64x128 .f32) : TileProg F c j (Row F) :=
  Scf.Loop.for k0_t2_loop k0_t2_ok zeroRow (addRows M)

/-- Sixteen lanes of the sum scaled by 1/64 and stored as a piece of the result's row. -/
def putLanes (O : Memref sig .scVector .vmem S128x128 .f32) (off : Fin 2 → ℕ) (h : ∀ a, off a + S1x16.size a ≤ S128x128.size a)
    (x : FVec F S16 .f32) : TileProg F c j PUnit := do
  let _ : Vec F S1x16 .f32 ← Prog.lift (.load O (Rect.unit (s := S128x128) off S1x16.size h).toLoadRect (View.loadsAt_vmem h_S1x16))
  Prog.lift (.store O (Rect.unit (s := S128x128) off S1x16.size h) (k0_pay397 x) Finset.univ (View.stores_vmem_bits_univ h_S1x16 rfl) (.inl rfl))

/-- The scaled sum stored as row `8 q + p` of the result. -/
def putRow (O : Memref sig .scVector .vmem S128x128 .f32) (q : Fin k0_t1_loop.trips) (p : Fin 8) (a : Row F) : TileProg F c j PUnit := do
  putLanes O (k0_off12 q (BitVec.ofNat 32 p.val)) (k0_off12_inb q p) a.1
  putLanes O (k0_off13 q (BitVec.ofNat 32 p.val)) (k0_off13_inb q p) a.2.1
  putLanes O (k0_off14 q (BitVec.ofNat 32 p.val)) (k0_off14_inb q p) a.2.2.1
  putLanes O (k0_off15 q (BitVec.ofNat 32 p.val)) (k0_off15_inb q p) a.2.2.2.1
  putLanes O (k0_off16 q (BitVec.ofNat 32 p.val)) (k0_off16_inb q p) a.2.2.2.2.1
  putLanes O (k0_off17 q (BitVec.ofNat 32 p.val)) (k0_off17_inb q p) a.2.2.2.2.2.1
  putLanes O (k0_off18 q (BitVec.ofNat 32 p.val)) (k0_off18_inb q p) a.2.2.2.2.2.2.1
  putLanes O (k0_off19 q (BitVec.ofNat 32 p.val)) (k0_off19_inb q p) a.2.2.2.2.2.2.2

/-- The whole table as the source of a gather. -/
abbrev table (T : Memref sig .scVector .hbm S100000x128 .f32) : Memref sig .scVector .hbm S100000x128 .f32 :=
  T.slice (Rect.unit (s := S100000x128) ![0, 0] S100000x128.size inb_S100000x128_S100000x128_0_0) (fun _ => rfl)

/-- One row of the index block, as a list of sixty-four indices. -/
abbrev idxRow (I : Memref sig .scVector .vmem S128x64 .i32) (off : Fin 2 → ℕ) (h : ∀ a, off a + S1x64.size a ≤ S128x64.size a) :
    Memref sig .scVector .vmem S64 .i32 :=
  (I.slice (Rect.unit (s := S128x64) off S1x64.size h) (fun _ => rfl)).squeeze S64 squeezes_S1x64_S64

/-- The gather of the table's rows that one row of the index block names, begun into a row buffer. -/
def issue (T : Memref sig .scVector .hbm S100000x128 .f32) (I : Memref sig .scVector .vmem S128x64 .i32)
    (M : Memref sig .scVector .vmem S64x128 .f32) (s : DmaSems sig S_) (off : Fin 2 → ℕ) (h : ∀ a, off a + S1x64.size a ≤ S128x64.size a) :
    TileProg F c j PUnit :=
  SparseCore.enqueueIndirectGather rfl (table T) M gathers_S100000x128_S64x128 (idxRow I off h) rfl s.sem (View.wordExact_bits rfl) rfl (Or.inl rfl)

/-- The same where a condition holds, nothing otherwise. -/
def issueIf (C : BitVec 1) (T : Memref sig .scVector .hbm S100000x128 .f32) (I : Memref sig .scVector .vmem S128x64 .i32)
    (M : Memref sig .scVector .vmem S64x128 .f32) (s : DmaSems sig S_) (off : Fin 2 → ℕ) (h : C = 1#1 → ∀ a, off a + S1x64.size a ≤ S128x64.size a) :
    TileProg F c j PUnit :=
  if hC : C = 1#1 then do
    issue T I M s off (h hC)
    pure ⟨⟩
  else pure ⟨⟩

/-- The wait for the gather into a row buffer, the sum of its rows, the store of the scaled sum. -/
def finish (T : Memref sig .scVector .hbm S100000x128 .f32) (M : Memref sig .scVector .vmem S64x128 .f32) (hM : M.IsWhole)
    (s : DmaSems sig S_) (O : Memref sig .scVector .vmem S128x128 .f32) (q : Fin k0_t1_loop.trips) (p : Fin 8) : TileProg F c j PUnit := do
  SparseCore.waitIndirectGather s.sem (table T) M (View.wordExact_bits rfl) hM.wordExact
  let a ← sumRows M
  putRow O q p a

section Trip

variable (i : grid0.Coords)
  (arg2 : Memref sig .scVector .hbm S100000x128 .f32) (harg2 : arg2.IsWhole) (arg3 : Memref sig .scVector .hbm S32x128x64 .i32) (harg3 : arg3.IsWhole) (arg4 : Memref sig .scVector .hbm S4096x128 .f32) (harg4 : arg4.IsWhole) (arg5 : Memref sig .scVector .vmem S128x64 .i32) (harg5 : arg5.IsWhole) (arg6 : Memref sig .scVector .vmem S64x128 .f32) (harg6 : arg6.IsWhole) (arg7 : Memref sig .scVector .vmem S64x128 .f32) (harg7 : arg7.IsWhole) (arg8 : Memref sig .scVector .vmem S64x128 .f32) (harg8 : arg8.IsWhole) (arg9 : Memref sig .scVector .vmem S64x128 .f32) (harg9 : arg9.IsWhole) (arg10 : Memref sig .scVector .vmem S64x128 .f32) (harg10 : arg10.IsWhole) (arg11 : Memref sig .scVector .vmem S64x128 .f32) (harg11 : arg11.IsWhole) (arg12 : Memref sig .scVector .vmem S64x128 .f32) (harg12 : arg12.IsWhole) (arg13 : Memref sig .scVector .vmem S64x128 .f32) (harg13 : arg13.IsWhole) (arg14 : Memref sig .scVector .vmem S128x128 .f32) (harg14 : arg14.IsWhole) (arg15 : DmaSems sig S_) (arg16 : DmaSems sig S_) (arg17 : DmaSems sig S_) (arg18 : DmaSems sig S_) (arg19 : DmaSems sig S_) (arg20 : DmaSems sig S_) (arg21 : DmaSems sig S_) (arg22 : DmaSems sig S_) (v25_r0 : DmaSems sig S_) (v25_r1 : DmaSems sig S_)

set_option maxRecDepth 65536 in
/-- The loop over the rows of buffer 0 adds up its rows. -/
theorem t2_body_eq (x y : BitVec 32) (q : Fin k0_t1_loop.trips) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 arg22 v25_r0 v25_r1 x y q = addRows arg6 := by
  funext t ⟨_, _, _, _, _, _, _, _⟩
  rfl

set_option maxRecDepth 65536 in
/-- The loop over the rows of buffer 1 adds up its rows. -/
theorem t3_body_eq (q : Fin k0_t1_loop.trips) (x : BitVec 32) (a b c d e f : FVec F S16 .f32) (z : F .f32) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 arg22 v25_r0 v25_r1 q x a b c d e f z = addRows arg7 := by
  funext t ⟨_, _, _, _, _, _, _, _⟩
  rfl

set_option maxRecDepth 65536 in
/-- The loop over the rows of buffer 2 adds up its rows. -/
theorem t4_body_eq (q : Fin k0_t1_loop.trips) (x y z : BitVec 32) :
    k0_t4_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 arg22 v25_r0 v25_r1 q x y z = addRows arg8 := by
  funext t ⟨_, _, _, _, _, _, _, _⟩
  rfl

set_option maxRecDepth 65536 in
/-- The loop over the rows of buffer 3 adds up its rows. -/
theorem t5_body_eq (q : Fin k0_t1_loop.trips) (x y : BitVec 32) (a b : FVec F S16 .f32) :
    k0_t5_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 arg22 v25_r0 v25_r1 q x y a b = addRows arg9 := by
  funext t ⟨_, _, _, _, _, _, _, _⟩
  rfl

set_option maxRecDepth 65536 in
/-- The loop over the rows of buffer 4 adds up its rows. -/
theorem t6_body_eq (q : Fin k0_t1_loop.trips) (x : BitVec 32) :
    k0_t6_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 arg22 v25_r0 v25_r1 q x = addRows arg10 := by
  funext t ⟨_, _, _, _, _, _, _, _⟩
  rfl

set_option maxRecDepth 65536 in
/-- The loop over the rows of buffer 5 adds up its rows. -/
theorem t7_body_eq (q : Fin k0_t1_loop.trips) (x : BitVec 32) (a : FVec F S16 .f32) (y : BitVec 32) :
    k0_t7_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 arg22 v25_r0 v25_r1 q x a y = addRows arg11 := by
  funext t ⟨_, _, _, _, _, _, _, _⟩
  rfl

set_option maxRecDepth 65536 in
/-- The loop over the rows of buffer 6 adds up its rows. -/
theorem t8_body_eq (q : Fin k0_t1_loop.trips) (x : BitVec 32) (a b c d : FVec F S16 .f32) :
    k0_t8_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 arg22 v25_r0 v25_r1 q x a b c d = addRows arg12 := by
  funext t ⟨_, _, _, _, _, _, _, _⟩
  rfl

set_option maxRecDepth 65536 in
/-- The loop over the rows of buffer 7 adds up its rows. -/
theorem t9_body_eq (q : Fin k0_t1_loop.trips) (x : BitVec 32) :
    k0_t9_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 arg22 v25_r0 v25_r1 q x = addRows arg13 := by
  funext t ⟨_, _, _, _, _, _, _, _⟩
  rfl

/-- One trip: eight times, begin the gather seven rows ahead and finish the oldest one. -/
def trip (T : Memref sig .scVector .hbm S100000x128 .f32) (I : Memref sig .scVector .vmem S128x64 .i32)
    (M : Fin 8 → Memref sig .scVector .vmem S64x128 .f32) (hM : ∀ p, (M p).IsWhole) (s : Fin 8 → DmaSems sig S_)
    (O : Memref sig .scVector .vmem S128x128 .f32) (q : Fin k0_t1_loop.trips) : TileProg F c j Unit := do
  issueIf (k0_cond1 q) T I (M 7) (s 7) (k0_off2 q) (k0_off2_inb q)
  finish T (M 0) (hM 0) (s 0) O q 0
  issueIf (k0_cond2 q) T I (M 0) (s 0) (k0_off20 q) (k0_off20_inb q)
  finish T (M 1) (hM 1) (s 1) O q 1
  issueIf (k0_cond3 q) T I (M 1) (s 1) (k0_off29 q) (k0_off29_inb q)
  finish T (M 2) (hM 2) (s 2) O q 2
  issueIf (k0_cond4 q) T I (M 2) (s 2) (k0_off38 q) (k0_off38_inb q)
  finish T (M 3) (hM 3) (s 3) O q 3
  issueIf (k0_cond5 q) T I (M 3) (s 3) (k0_off47 q) (k0_off47_inb q)
  finish T (M 4) (hM 4) (s 4) O q 4
  issueIf (k0_cond6 q) T I (M 4) (s 4) (k0_off56 q) (k0_off56_inb q)
  finish T (M 5) (hM 5) (s 5) O q 5
  issueIf (k0_cond7 q) T I (M 5) (s 5) (k0_off65 q) (k0_off65_inb q)
  finish T (M 6) (hM 6) (s 6) O q 6
  issueIf (k0_cond8 q) T I (M 6) (s 6) (k0_off74 q) (k0_off74_inb q)
  finish T (M 7) (hM 7) (s 7) O q 7

/-- A conditional gather before a rest that both branches share is the conditional gather, then the rest. -/
theorem issueIf_bind {α : Type} (C : BitVec 1) (T : Memref sig .scVector .hbm S100000x128 .f32) (I : Memref sig .scVector .vmem S128x64 .i32)
    (M : Memref sig .scVector .vmem S64x128 .f32) (s : DmaSems sig S_) (off : Fin 2 → ℕ) (h : C = 1#1 → ∀ a, off a + S1x64.size a ≤ S128x64.size a)
    (k : TileProg F c j α) :
    (if hC : C = 1#1 then
      (SparseCore.enqueueIndirectGather rfl
        (T.slice (Rect.unit (s := S100000x128) ![0, 0] S100000x128.size inb_S100000x128_S100000x128_0_0) (fun _ => rfl)) M gathers_S100000x128_S64x128
        ((I.slice (Rect.unit (s := S128x64) off S1x64.size (h hC)) (fun _ => rfl)).squeeze S64 squeezes_S1x64_S64) rfl s.sem (View.wordExact_bits rfl) rfl (Or.inl rfl)
          : TileProg F c j PUnit) >>= fun _ => k
     else k) = issueIf C T I M s off h >>= fun _ => k := by
  unfold issueIf
  split <;> rfl

set_option maxRecDepth 65536 in
/-- The printed trip is the trip stated above, over the eight row buffers and their semaphores. -/
theorem t1_body_eq (q : Fin k0_t1_loop.trips) (u : Unit) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 arg22 v25_r0 v25_r1 q u
      = trip arg2 arg5 ![arg6, arg7, arg8, arg9, arg10, arg11, arg12, arg13]
          (fun p => by fin_cases p <;> assumption) ![arg15, arg16, arg17, arg18, arg19, arg20, arg21, arg22] arg14 q := by
  unfold k0_t1_body trip finish sumRows putRow putLanes
  simp only [k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, bind_assoc, pure_bind, issueIf_bind, t2_body_eq, t3_body_eq, t4_body_eq, t5_body_eq, t6_body_eq, t7_body_eq,
    t8_body_eq, t9_body_eq]
  rfl

end Trip

end Cert.KernelIdeal.Own
-- ==== Proof.Value.lean ====
/-
  What one tile computes, as plain functions: the sum of a column of the gathered rows in the order of the rows, and that
  sum scaled by 1/64.  No program here; the runs are compared with these functions in the modules that follow.
-/
module

public import proofs.«01_k».proof.Proof.Phase
public import Idealize.ShloMosaic.Lib.Pipeline.Value

@[expose] public section

noncomputable section

namespace Cert.KernelIdeal.Own

open Idealize.ShloMosaic Idealize.SL.Sem
open Cert.KernelIdeal.Gen

variable {F : FTy → Type} [FloatOps F]

/-- The place at row `r`, column `k` of a block of sixty-four rows of 128 columns. -/
def cell (r k : ℕ) : S64x128.Idx
  | 0 => ⟨r % 64, Nat.mod_lt _ (by decide)⟩
  | 1 => ⟨k % 128, Nat.mod_lt _ (by decide)⟩

/-- The sum of the first `n` rows of `G` at column `k`, the rows taken in order. -/
def colSum (G : S64x128.Idx → F .f32) (k : ℕ) : ℕ → F .f32
  | 0 => Scalar.ofBits .f32 0x00000000#32
  | n + 1 => FloatOps.addf (colSum G k n) (G (cell n k))

/-- The mean of the sixty-four rows of `G` at column `k`, as the kernel computes it: their sum times 1/64. -/
def meanAt (G : S64x128.Idx → F .f32) (k : ℕ) : F .f32 :=
  FloatOps.mulf (colSum G k 64) (Scalar.ofBits .f32 0x3C800000#32)

/-- The eight groups of a row of partial sums, by number. -/
def group (a : Row F) : Fin 8 → FVec F S16 .f32 :=
  ![a.1, a.2.1, a.2.2.1, a.2.2.2.1, a.2.2.2.2.1, a.2.2.2.2.2.1, a.2.2.2.2.2.2.1, a.2.2.2.2.2.2.2]

/-- The sixteen lanes of `G` from an offset on. -/
def lanesOf (G : S64x128.Idx → F .f32) (off : Fin 2 → ℕ) (h : ∀ a, off a + S1x16.size a ≤ S64x128.size a) : Vec F S1x16 .f32 :=
  fun x => G ((Rect.unit (s := S64x128) off S1x16.size h).emb x)

/-- The partial sums with row `8 t + u` of `G` added. -/
def plusRow (G : S64x128.Idx → F .f32) (t : Fin k0_t2_loop.trips) (u : Fin 8) (a : Row F) : Row F :=
  (addLanes a.1 (lanesOf G (k0_off4 t (BitVec.ofNat 32 u.val)) (k0_off4_inb t u)),
   addLanes a.2.1 (lanesOf G (k0_off5 t (BitVec.ofNat 32 u.val)) (k0_off5_inb t u)),
   addLanes a.2.2.1 (lanesOf G (k0_off6 t (BitVec.ofNat 32 u.val)) (k0_off6_inb t u)),
   addLanes a.2.2.2.1 (lanesOf G (k0_off7 t (BitVec.ofNat 32 u.val)) (k0_off7_inb t u)),
   addLanes a.2.2.2.2.1 (lanesOf G (k0_off8 t (BitVec.ofNat 32 u.val)) (k0_off8_inb t u)),
   addLanes a.2.2.2.2.2.1 (lanesOf G (k0_off9 t (BitVec.ofNat 32 u.val)) (k0_off9_inb t u)),
   addLanes a.2.2.2.2.2.2.1 (lanesOf G (k0_off10 t (BitVec.ofNat 32 u.val)) (k0_off10_inb t u)),
   addLanes a.2.2.2.2.2.2.2 (lanesOf G (k0_off11 t (BitVec.ofNat 32 u.val)) (k0_off11_inb t u)))

/-- The partial sums with the eight rows of trip `t` added. -/
def plusRows (G : S64x128.Idx → F .f32) (t : Fin k0_t2_loop.trips) (a : Row F) : Row F :=
  plusRow G t 7 (plusRow G t 6 (plusRow G t 5 (plusRow G t 4 (plusRow G t 3 (plusRow G t 2 (plusRow G t 1 (plusRow G t 0 a)))))))

/-- A row of partial sums holds, in every lane, the sum of the first `n` rows of `G`. -/
def Sums (G : S64x128.Idx → F .f32) (n : ℕ) (a : Row F) : Prop :=
  ∀ (k : Fin 8) (l : S16.Idx), group a k l = colSum G (16 * k.val + (l 0).val) n

/-- Before any row, every lane holds the empty sum. -/
theorem sums_zero (G : S64x128.Idx → F .f32) : Sums G 0 (zeroRow (F := F)) := by
  intro k l
  fin_cases k <;> rfl

/-- One lane of a group after sixteen lanes at row `r`, column `k` on are added. -/
theorem addLanes_apply (G : S64x128.Idx → F .f32) (a : FVec F S16 .f32) (off : Fin 2 → ℕ) (h : ∀ b, off b + S1x16.size b ≤ S64x128.size b)
    (r k : ℕ) (ho : off = ![r, k]) (l : S16.Idx) :
    addLanes a (lanesOf G off h) l = FloatOps.addf (a l) (G (cell r (k + (l 0).val))) := by
  subst ho
  have h0 : r + 1 ≤ 64 := h 0
  have h1 : k + 16 ≤ 128 := h 1
  have hl : (l 0).val < 16 := (l 0).isLt
  let x : S1x16.Idx := fun | 0 => ⟨0, by decide⟩ | 1 => ⟨(l 0).val, hl⟩
  show FloatOps.addf (a l) (shapeCast S16 (lanesOf G ![r, k] h) shapeCasts_S1x16_S16 l) = _
  rw [shapeCast_apply (lanesOf G ![r, k] h) shapeCasts_S1x16_S16 l x (by
    rw [Shape.rowMajor_val_two, Shape.rowMajor_val_one]; show 0 * 16 + (l 0).val = (l 0).val; omega)]
  refine congrArg (FloatOps.addf (a l)) (congrArg G ?_)
  funext b
  apply Fin.ext
  match b with
  | 0 => show r + 1 * 0 = r % 64; omega
  | 1 => show k + 1 * (l 0).val = (k + (l 0).val) % 128; omega

/-- Adding row `8 t + u` takes the sum of the first `8 t + u` rows to the next. -/
theorem sums_plusRow (G : S64x128.Idx → F .f32) (t : Fin k0_t2_loop.trips) (u : Fin 8) (a : Row F) (ha : Sums G (8 * t.val + u.val) a) :
    Sums G (8 * t.val + u.val + 1) (plusRow G t u a) := by
  intro k l
  have hk := ha k l
  rw [colSum, ← hk]
  fin_cases k
  · exact (addLanes_apply G _ _ _ _ _ (k0_off4_eq t u) l)
  · exact (addLanes_apply G _ _ _ _ _ (k0_off5_eq t u) l)
  · exact (addLanes_apply G _ _ _ _ _ (k0_off6_eq t u) l)
  · exact (addLanes_apply G _ _ _ _ _ (k0_off7_eq t u) l)
  · exact (addLanes_apply G _ _ _ _ _ (k0_off8_eq t u) l)
  · exact (addLanes_apply G _ _ _ _ _ (k0_off9_eq t u) l)
  · exact (addLanes_apply G _ _ _ _ _ (k0_off10_eq t u) l)
  · exact (addLanes_apply G _ _ _ _ _ (k0_off11_eq t u) l)

/-- One trip adds eight rows. -/
theorem sums_plusRows (G : S64x128.Idx → F .f32) (t : Fin k0_t2_loop.trips) (a : Row F) (ha : Sums G (8 * t.val) a) :
    Sums G (8 * (t.val + 1)) (plusRows G t a) :=
  sums_plusRow G t 7 _ (sums_plusRow G t 6 _ (sums_plusRow G t 5 _ (sums_plusRow G t 4 _ (sums_plusRow G t 3 _
    (sums_plusRow G t 2 _ (sums_plusRow G t 1 _ (sums_plusRow G t 0 _ ha)))))))

end Cert.KernelIdeal.Own
-- ==== Proof.Setup.lean ====
/-
  The set-up of the launch: the program as the launch theorem sees it and the algebra of the ghost state, which the
  modules on the tile's run and on the launch share.
-/
module

public import proofs.«01_k».proof.Proof.Value
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program under the launch. -/
abbrev ΛP : Labels := Pipeline.Sig Λ₀ (Fin 0) fun p => (pcfgs (F := F) p).Adm
/-- The launch's one call. -/
abbrev K : SparseCore.Cfg τ sig (ΛP (F := F)) 1 := sc (F := F)
/-- The definitions under the launch. -/
abbrev D [FloatOps F] : Defs nD τ sig (Elt F) (ΛP (F := F)) := Pipeline.defs pcfgs defs₀
/-- The tile's program calls nothing, so it needs no variant. -/
abbrev 𝒱₀ : Variants := Variants.none
/-- The variants under the launch. -/
abbrev 𝒱 : Variants := 𝒱₀.lift
/-- The launch's variant. -/
abbrev v₀ : 𝒱.V := Sum.inl none

/-- The launch's cells are as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state of the handshakes. -/
abbrev UH : Type := URounds (GSem nD τ sig) ℕ
/-- The ghost state of the handshakes and of the transfers. -/
abbrev UU : Type := UH × Counters

/-- The algebra of the proof. -/
abbrev MM (F : FTy → Type) : Type := MT nD τ sig (HIx 1) (Elt F) ℕ UU ℕ

/-- Where the handshakes' ghost state lies in it. -/
abbrev EH : Emb UH (MT nD τ sig (HIx 1) (Elt F) ℕ UU ℕ) := embL

end Cert.KernelIdeal.Own
-- ==== Proof.Rows.lean ====
/-
  The run of the pieces of a tile's body that touch only the tile's own buffers: adding up the rows of a row buffer, and
  storing the scaled sum into the result block.
-/
module

public import proofs.«01_k».proof.Proof.Setup

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (c : Fin τ.nSC) (j : Fin τ.nSub)

/-- The weakest precondition of a program of tile `j` of SparseCore `c`. -/
abbrev wpT {α : Type} (p : TileProg F c j α) (Q : α → sProp 𝕄) : sProp 𝕄 :=
  wp frame (wpE (defs₀ (F := F)) 𝒱₀ (V d c j) none) Set.univ p Q

/-- A row buffer whose contents read as `G`. -/
abbrev holdsRows (M : Memref sig .scVector .vmem S64x128 .f32) (G : S64x128.Idx → F .f32) : sProp 𝕄 :=
  iprop(∃ f, ⌜M.view.read (Elt F) f = G⌝ ∗ (M.view.loc (V d c j) ↦[M.view.set]{fullShare} f))

/-- A load of sixteen lanes of a row buffer reads those lanes of what it holds. -/
theorem wp_loadLanes {α : Type} {Q : α → sProp 𝕄} (M : Memref sig .scVector .vmem S64x128 .f32) (G : S64x128.Idx → F .f32)
    (off : Fin 2 → ℕ) (h : ∀ a, off a + S1x16.size a ≤ S64x128.size a)
    {hl : M.view.LoadsAt (Rect.unit (s := S64x128) off S1x16.size h).toLoadRect} (k : Vec F S1x16 .f32 → TileProg F c j α) :
    holdsRows d c j M G ⊢ iprop((holdsRows d c j M G -∗ wpT d c j (k (lanesOf G off h)) Q)
      -∗ wpT d c j (Prog.lift (.load M (Rect.unit (s := S64x128) off S1x16.size h).toLoadRect hl) >>= k) Q) := by
  iintro ⟨%f, %hf, H⟩ Hk
  iapply (wp_load_rect 𝒱₀ (V d c j) none Set.univ (m := M) (r := Rect.unit (s := S64x128) off S1x16.size h) (hl := hl)
    (View.set_slice_subset _ _)) $$ H
  iintro H
  rw [show ((M.access (Rect.unit (s := S64x128) off S1x16.size h)).read (Elt F) f) = lanesOf G off h by rw [← hf]; rfl]
  iapply Hk
  iexists f; isplitr
  · ipureintro; exact hf
  · iexact H

/-- A program in tail position may be read as one with nothing after it. -/
theorem wpT_tail {α : Type} {Q : α → sProp 𝕄} {p : TileProg F c j α} :
    wpT d c j (p >>= pure) Q ⊢ wpT d c j p Q := by rw [bind_pure]

/-- A program before another is run first, what follows being its aim. -/
theorem wpT_bind {α β : Type} {Q : β → sProp 𝕄} {p : TileProg F c j α} {k : α → TileProg F c j β} :
    wpT d c j p (fun a => wpT d c j (k a) Q) ⊢ wpT d c j (p >>= k) Q := by
  unfold wpT; rw [wp_bind]

/-- A program that is done. -/
theorem wpT_ret {α : Type} {Q : α → sProp 𝕄} {x : α} : Q x ⊢ wpT d c j (pure x : TileProg F c j α) Q := by
  unfold wpT; rw [wp_pure]; exact fupd_intro

/-- A row of the buffer is added to the partial sums. -/
theorem wp_addRow {α : Type} {Q : α → sProp 𝕄} (M : Memref sig .scVector .vmem S64x128 .f32) (G : S64x128.Idx → F .f32)
    (t : Fin k0_t2_loop.trips) (u : Fin 8) (a : Row F) (k : Row F → TileProg F c j α) :
    holdsRows d c j M G ⊢ iprop((holdsRows d c j M G -∗ wpT d c j (k (plusRow G t u a)) Q)
      -∗ wpT d c j (addRow M t u a >>= k) Q) := by
  unfold addRow
  simp only [bind_assoc, pure_bind]
  iintro H Hk
  iapply (wp_loadLanes d c j M G (k0_off4 t (BitVec.ofNat 32 u.val)) (k0_off4_inb t u)) $$ H; iintro H
  iapply (wp_loadLanes d c j M G (k0_off5 t (BitVec.ofNat 32 u.val)) (k0_off5_inb t u)) $$ H; iintro H
  iapply (wp_loadLanes d c j M G (k0_off6 t (BitVec.ofNat 32 u.val)) (k0_off6_inb t u)) $$ H; iintro H
  iapply (wp_loadLanes d c j M G (k0_off7 t (BitVec.ofNat 32 u.val)) (k0_off7_inb t u)) $$ H; iintro H
  iapply (wp_loadLanes d c j M G (k0_off8 t (BitVec.ofNat 32 u.val)) (k0_off8_inb t u)) $$ H; iintro H
  iapply (wp_loadLanes d c j M G (k0_off9 t (BitVec.ofNat 32 u.val)) (k0_off9_inb t u)) $$ H; iintro H
  iapply (wp_loadLanes d c j M G (k0_off10 t (BitVec.ofNat 32 u.val)) (k0_off10_inb t u)) $$ H; iintro H
  iapply (wp_loadLanes d c j M G (k0_off11 t (BitVec.ofNat 32 u.val)) (k0_off11_inb t u)) $$ H; iintro H
  iapply Hk; iexact H

/-- One trip of the loop over the rows adds eight of them. -/
theorem wp_addRows {Q : Row F → sProp 𝕄} (M : Memref sig .scVector .vmem S64x128 .f32) (G : S64x128.Idx → F .f32)
    (t : Fin k0_t2_loop.trips) (a : Row F) :
    holdsRows d c j M G ⊢ iprop((holdsRows d c j M G -∗ Q (plusRows G t a)) -∗ wpT d c j (addRows M t a) Q) := by
  unfold addRows plusRows
  iintro H Hk
  iapply (wp_addRow d c j M G t 0) $$ H; iintro H
  iapply (wp_addRow d c j M G t 1) $$ H; iintro H
  iapply (wp_addRow d c j M G t 2) $$ H; iintro H
  iapply (wp_addRow d c j M G t 3) $$ H; iintro H
  iapply (wp_addRow d c j M G t 4) $$ H; iintro H
  iapply (wp_addRow d c j M G t 5) $$ H; iintro H
  iapply (wp_addRow d c j M G t 6) $$ H; iintro H
  iapply (wpT_tail d c j)
  iapply (wp_addRow d c j M G t 7) $$ H; iintro H
  iapply (wpT_ret d c j); iapply Hk; iexact H

theorem trips_rows : k0_t2_loop.trips = 8 := by decide

/-- The loop over the rows leaves the sum of all sixty-four in every lane. -/
theorem wp_sumRows {α : Type} {Q : α → sProp 𝕄} (M : Memref sig .scVector .vmem S64x128 .f32) (G : S64x128.Idx → F .f32)
    (k : Row F → TileProg F c j α) :
    holdsRows d c j M G ⊢ iprop((∀ a, ⌜Sums G 64 a⌝ -∗ holdsRows d c j M G -∗ wpT d c j (k a) Q)
      -∗ wpT d c j (sumRows M >>= k) Q) := by
  unfold sumRows
  iintro H Hk
  iapply (Scf.wp_for_bind frame (wpE (defs₀ (F := F)) 𝒱₀ (V d c j) none) Set.univ _ _ _ k0_t2_ok zeroRow (addRows M)
    (fun n a => iprop(⌜Sums G (8 * n) a⌝ ∗ holdsRows d c j M G)) (by
      intro t a
      iintro ⟨%ha, H⟩
      iapply (wp_addRows d c j M G t a) $$ H
      iintro H
      isplitr
      · ipureintro; exact sums_plusRows G t a ha
      · iexact H)) $$ [H]
  · isplitr
    · ipureintro; exact sums_zero G
    · iexact H
  iintro %a ⟨%ha, H⟩
  iapply Hk
  · ipureintro; rw [show (64 : ℕ) = 8 * k0_t2_loop.trips by rw [trips_rows]]; exact ha
  · iexact H

/-- The result block holds `R` on its first `n` rows and on the first `16 k` columns of the next. -/
def HoldsUpTo (R : S128x128.Idx → F .f32) (n k : ℕ) (g : S128x128.Idx → F .f32) : Prop :=
  ∀ y : S128x128.Idx, ((y 0).val < n ∨ ((y 0).val = n ∧ (y 1).val < 16 * k)) → g y = R y

/-- The tile's result block, filled that far. -/
abbrev holdsOut (O : Memref sig .scVector .vmem S128x128 .f32) (R : S128x128.Idx → F .f32) (n k : ℕ) : sProp 𝕄 :=
  iprop(∃ f, ⌜HoldsUpTo R n k (O.view.read (Elt F) f)⌝ ∗ (O.view.loc (V d c j) ↦[O.view.set]{fullShare} f))

/-- Sixteen lanes stored fill the next sixteen columns. -/
theorem wp_putLanes {α : Type} {Q : α → sProp 𝕄} (O : Memref sig .scVector .vmem S128x128 .f32) (R : S128x128.Idx → F .f32)
    (n k : ℕ) (off : Fin 2 → ℕ) (h : ∀ a, off a + S1x16.size a ≤ S128x128.size a) (ho : off = ![n, 16 * k]) (x : FVec F S16 .f32)
    (hx : ∀ (y : S128x128.Idx) (l : S16.Idx), (y 0).val = n → (y 1).val = 16 * k + (l 0).val →
      FloatOps.mulf (x l) (Scalar.ofBits .f32 0x3C800000#32) = R y)
    (kk : PUnit → TileProg F c j α) :
    holdsOut d c j O R n k ⊢ iprop((holdsOut d c j O R n (k + 1) -∗ wpT d c j (kk ⟨⟩) Q)
      -∗ wpT d c j (putLanes O off h x >>= kk) Q) := by
  subst ho
  unfold putLanes
  simp only [bind_assoc]
  iintro ⟨%f, %hf, H⟩ Hk
  iapply (wp_load_rect 𝒱₀ (V d c j) none Set.univ (m := O) (r := Rect.unit (s := S128x128) ![n, 16 * k] S1x16.size h)
    (View.set_slice_subset _ _)) $$ H
  iintro H
  iapply (wp_store 𝒱₀ (V d c j) none Set.univ (m := O) (r := Rect.unit (s := S128x128) ![n, 16 * k] S1x16.size h)
    (View.set_slice_subset _ _)) $$ H
  iintro H
  iapply Hk
  iexists _; isplitr
  swap; · iexact H
  ipureintro
  intro y hy
  by_cases hm : y ∈ (Finset.univ : Finset (Rect.unit (s := S128x128) ![n, 16 * k] S1x16.size h).shape.Idx).map
      (Rect.unit (s := S128x128) ![n, 16 * k] S1x16.size h).emb
  · obtain ⟨z, -, rfl⟩ := Finset.mem_map.mp hm
    refine (View.read_slice_write_emb (v := O.view) _ f _ (Finset.mem_univ z)).trans ?_
    have h1 : (z 1).val < 16 := (z 1).isLt
    have h0 : (z 0).val < 1 := (z 0).isLt
    let l : S16.Idx := fun | 0 => ⟨(z 1).val, h1⟩
    refine Eq.trans ?_ (hx _ l ?_ ?_)
    · show shapeCast S1x16 (mulf x (broadcast S16 (Scalar.ofBits .f32 0x3C800000#32))) shapeCasts_S16_S1x16 z = _
      rw [shapeCast_apply _ shapeCasts_S16_S1x16 z l (by
        rw [Shape.rowMajor_val_two, Shape.rowMajor_val_one]; show (z 1).val = (z 0).val * 16 + (z 1).val; omega)]
      rfl
    · show n + 1 * (z 0).val = n; omega
    · show 16 * k + 1 * (z 1).val = 16 * k + (z 1).val; omega
  · refine (View.read_slice_write_of_not_mem (v := O.view) _ f _ _ hm).trans (hf y ?_)
    by_contra hc
    have hy0 : (y 0).val = n := by omega
    have hy1 : 16 * k ≤ (y 1).val ∧ (y 1).val < 16 * k + 16 := by omega
    refine hm (Finset.mem_map.mpr ⟨fun | 0 => ⟨0, Nat.one_pos⟩ | 1 => ⟨(y 1).val - 16 * k, by show _ < 16; omega⟩, Finset.mem_univ _, ?_⟩)
    funext b
    apply Fin.ext
    match b with
    | 0 => show n + 1 * 0 = (y 0).val; omega
    | 1 => show 16 * k + 1 * ((y 1).val - 16 * k) = (y 1).val; omega

/-- The scaled sum stored as row `8 q + p` fills that row. -/
theorem wp_putRow {Q : PUnit → sProp 𝕄} (O : Memref sig .scVector .vmem S128x128 .f32) (R : S128x128.Idx → F .f32)
    (q : Fin k0_t1_loop.trips) (p : Fin 8) (a : Row F) (G : S64x128.Idx → F .f32) (ha : Sums G 64 a)
    (hR : ∀ y : S128x128.Idx, (y 0).val = 8 * q.val + p.val → R y = meanAt G (y 1).val) :
    holdsOut d c j O R (8 * q.val + p.val) 0 ⊢ iprop((holdsOut d c j O R (8 * q.val + p.val + 1) 0 -∗ Q ⟨⟩)
      -∗ wpT d c j (putRow O q p a) Q) := by
  have hx : ∀ (k : Fin 8) (y : S128x128.Idx) (l : S16.Idx), (y 0).val = 8 * q.val + p.val → (y 1).val = 16 * k.val + (l 0).val →
      FloatOps.mulf (group a k l) (Scalar.ofBits .f32 0x3C800000#32) = R y := by
    intro k y l h0 h1
    rw [hR y h0, meanAt, h1, ha k l]
  unfold putRow
  iintro H Hk
  iapply (wp_putLanes d c j O R _ 0 _ _ (k0_off12_eq q p) a.1 (hx 0)) $$ H; iintro H
  iapply (wp_putLanes d c j O R _ 1 _ _ (k0_off13_eq q p) a.2.1 (hx 1)) $$ H; iintro H
  iapply (wp_putLanes d c j O R _ 2 _ _ (k0_off14_eq q p) a.2.2.1 (hx 2)) $$ H; iintro H
  iapply (wp_putLanes d c j O R _ 3 _ _ (k0_off15_eq q p) a.2.2.2.1 (hx 3)) $$ H; iintro H
  iapply (wp_putLanes d c j O R _ 4 _ _ (k0_off16_eq q p) a.2.2.2.2.1 (hx 4)) $$ H; iintro H
  iapply (wp_putLanes d c j O R _ 5 _ _ (k0_off17_eq q p) a.2.2.2.2.2.1 (hx 5)) $$ H; iintro H
  iapply (wp_putLanes d c j O R _ 6 _ _ (k0_off18_eq q p) a.2.2.2.2.2.2.1 (hx 6)) $$ H; iintro H
  iapply (wpT_tail d c j)
  iapply (wp_putLanes d c j O R _ 7 _ _ (k0_off19_eq q p) a.2.2.2.2.2.2.2 (hx 7)) $$ H; iintro ⟨%f, %hf, H⟩
  iapply (wpT_ret d c j); iapply Hk
  iexists _; isplitr
  swap; · iexact H
  ipureintro; intro y hy
  have hb : (y 1).val < 128 := (y 1).isLt
  refine hf y ?_
  omega

end Cert.KernelIdeal.Own
-- ==== Proof.Slots.lean ====
/-
  A row buffer under its gather: what a tile holds of it before the gather begins and while it is in flight, and the run
  of the gather's start and of its end.
-/
module

public import proofs.«01_k».proof.Proof.Rows

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Element `(r, k)` of the table. -/
def tableCell (r k : ℕ) : S100000x128.Idx := fun
  | 0 => ⟨r % 100000, Nat.mod_lt _ (by decide)⟩
  | 1 => ⟨k % 128, Nat.mod_lt _ (by decide)⟩

/-- Element `(g, k)` of the tile's index block. -/
def listCell (g k : ℕ) : S128x64.Idx := fun
  | 0 => ⟨g % 128, Nat.mod_lt _ (by decide)⟩
  | 1 => ⟨k % 64, Nat.mod_lt _ (by decide)⟩

/-- The rows of the table that row `g` of the index block names. -/
def gathered (tb : S100000x128.Idx → F .f32) (N : S128x64.Idx → BitVec 32) (g : ℕ) : S64x128.Idx → F .f32 :=
  fun y => tb (tableCell (N (listCell g (y 0).val)).toNat (y 1).val)

/-- What the tile's result block is to hold: of each row of the index block, the mean of the rows it names. -/
def meanBlock (tb : S100000x128.Idx → F .f32) (N : S128x64.Idx → BitVec 32) : S128x128.Idx → F .f32 :=
  fun y => meanAt (gathered tb N (y 0).val) (y 1).val

variable (d : Dev nD) (c : Fin τ.nSC) (j : Fin τ.nSub)
  (T : Memref sig .scVector .hbm S100000x128 .f32) (I : Memref sig .scVector .vmem S128x64 .i32)
  (ft : Buf (Elt F) ((table T).view.loc (V d c j))) (fI : Buf (Elt F) (I.view.loc (V d c j)))

/-- A row of the index block reads as the block does. -/
theorem read_idxRow (g : ℕ) (h : ∀ a, (![g, 0] : Fin 2 → ℕ) a + S1x64.size a ≤ S128x64.size a) (x : S64.Idx) :
    (idxRow I ![g, 0] h).view.read (Elt F) fI x = I.view.read (Elt F) fI (listCell g (x 0).val) := by
  have hx : (x 0).val < 64 := (x 0).isLt
  have hg : g + 1 ≤ 128 := h 0
  have e : Shape.reshapeEquiv squeezes_S1x64_S64.numel_eq x = (fun | 0 => ⟨0, Nat.one_pos⟩ | 1 => ⟨(x 0).val, hx⟩ : S1x64.Idx) := by
    apply Shape.reshapeEquiv_eq_of_rowMajor
    rw [Shape.rowMajor_val_two, Shape.rowMajor_val_one]
    show 0 * 64 + (x 0).val = (x 0).val
    omega
  show I.view.read (Elt F) fI ((Rect.unit (s := S128x64) ![g, 0] S1x64.size h).emb (Shape.reshapeEquiv squeezes_S1x64_S64.numel_eq x)) = _
  rw [e]
  refine congrArg _ (funext fun b => Fin.ext ?_)
  match b with
  | 0 => show g + 1 * 0 = g % 128; omega
  | 1 => show 0 + 1 * (x 0).val = (x 0).val % 64; omega

/-- A share of the table, as a gather reads it. -/
abbrev tableShare (q : PosShare TreeShare) : sProp 𝕄 := (table T).view.loc (V d c j) ↦[(table T).view.set]{q} ft
/-- A share of the index block. -/
abbrev listShare (q : PosShare TreeShare) : sProp 𝕄 := I.view.loc (V d c j) ↦[I.view.set]{q} fI

variable (M : Memref sig .scVector .vmem S64x128 .f32) (s : DmaSems sig S_) (qT qI : PosShare TreeShare)

/-- A row buffer with no gather in flight: its contents, its semaphore at zero, its shares of the table and of the list. -/
def slotFree : sProp 𝕄 :=
  iprop((∃ f, M.view.loc (V d c j) ↦[M.view.set]{fullShare} f) ∗ semVal (V d c j, SemLoc.dma s.sem) 0
    ∗ tableShare d c j T ft qT ∗ listShare d c j I fI qI)

/-- A row buffer that the gather of row `g` is filling: at its end the buffer holds the rows that row `g` names. -/
def slotBusy (g : ℕ) : sProp 𝕄 :=
  iprop(∃ A B : sProp 𝕄, Transfers.Flight countersEmb (V d c j) (.dma s.sem) (default : HIx 1) M.view.dmaCredit A ∗ B
    ∗ ⌜iprop(A ∗ B) ⊢ iprop(holdsRows d c j M (gathered ((table T).view.read (Elt F) ft) (I.view.read (Elt F) fI) g)
        ∗ tableShare d c j T ft qT ∗ listShare d c j I fI qI)⌝)

/-- The list of a gather names rows of the table. -/
theorem gather_payload (hin : ∀ x, (I.view.read (Elt F) fI x).toNat < 100000) (g : ℕ)
    (h : ∀ a, (![g, 0] : Fin 2 → ℕ) a + S1x64.size a ≤ S128x64.size a)
    (hx : ∀ x, ((idxRow I ![g, 0] h).view.read (Elt F) fI x).toNat < S100000x128.size gathers_S100000x128_S64x128.axis) :
    SparseCore.gatherPayload gathers_S100000x128_S64x128 ((table T).view.read (Elt F) ft)
        (SparseCore.rows ((idxRow I ![g, 0] h).view.read (Elt F) fI) rfl hx)
      = gathered ((table T).view.read (Elt F) ft) (I.view.read (Elt F) fI) g := by
  funext y
  have hy0 : (y 0).val < 64 := (y 0).isLt
  have hy1 : (y 1).val < 128 := (y 1).isLt
  refine congrArg ((table T).view.read (Elt F) ft) (funext fun b => Fin.ext ?_)
  match b with
  | 0 =>
    have hl : ((S64.rowMajor.symm (Fin.cast (by rfl) (y 0) : Fin S64.numel)) 0).val = (y 0).val := by
      have := congrArg Fin.val (S64.rowMajor.apply_symm_apply (Fin.cast (by rfl) (y 0) : Fin S64.numel))
      rw [Shape.rowMajor_val_one] at this
      exact this
    show ((idxRow I ![g, 0] h).view.read (Elt F) fI (S64.rowMajor.symm (Fin.cast (by rfl) (y 0)))).toNat = _ % 100000
    rw [read_idxRow d c j I fI g h, hl, Nat.mod_eq_of_lt (hin _)]
  | 1 => show (y 1).val = (y 1).val % 128; omega

/-- The start of a gather. -/
theorem wp_issue {α : Type} {Q : α → sProp 𝕄} (hin : ∀ x, (I.view.read (Elt F) fI x).toNat < 100000)
    (hM : ∑ a, (M.slice (S64x128.rowRect gathers_S100000x128_S64x128.axis' a) (S64x128.stride_rowRect gathers_S100000x128_S64x128.axis' a)).view.dmaCredit
      = M.view.dmaCredit)
    (g : ℕ) (off : Fin 2 → ℕ) (h : ∀ a, off a + S1x64.size a ≤ S128x64.size a) (ho : off = ![g, 0]) (k : PUnit → TileProg F c j α) :
    slotFree d c j T I ft fI M s qT qI ⊢ iprop((slotBusy d c j T I ft fI M s qT qI g -∗ wpT d c j (k ⟨⟩) Q)
      -∗ wpT d c j (issue T I M s off h >>= k) Q) := by
  subst ho
  have hx : ∀ x, ((idxRow I ![g, 0] h).view.read (Elt F) fI x).toNat < S100000x128.size gathers_S100000x128_S64x128.axis := by
    intro x; rw [read_idxRow d c j I fI g h]; exact hin _
  have hsub : (idxRow I ![g, 0] h).view.set ⊆ I.view.set := by
    rw [show (idxRow I ![g, 0] h).view.set = (I.view.slice (Rect.unit (s := S128x64) ![g, 0] S1x64.size h)).set from View.set_reshape _ _]
    exact View.set_slice_subset _ _
  unfold slotFree slotBusy issue
  iintro ⟨⟨%f, Hm⟩, Hs, HT, HI⟩ Hk
  ihave HI := (pointsTo_split_subset (q := qI) (f := fI) hsub).1 $$ HI
  icases HI with ⟨HI, HIr⟩
  iapply (SparseCore.wp_indirectGatherLocal countersEmb 𝒱₀ (V d c j) none (hg := gathers_S100000x128_S64x128) (default : HIx 1)
    M.view.dmaCredit hM (by decide) hx) $$ [HT Hm HI Hs]
  · isplitl [HT]; · iexact HT
    isplitl [Hm]; · iexact Hm
    isplitl [HI]; · iexact HI
    iexact Hs
  iintro Hfl
  iapply Hk
  iexists _; iexists _
  isplitl [Hfl]; · iexact Hfl
  isplitl [HIr]; · iexact HIr
  ipureintro
  iintro ⟨⟨Hm, HT, HI⟩, HIr⟩
  isplitl [Hm]
  · iexists _; isplitr
    swap; · iexact Hm
    ipureintro
    rw [View.read_write_univ]
    exact gather_payload d c j T I ft fI hin g h hx
  isplitl [HT]; · iexact HT
  iapply (pointsTo_split_subset (q := qI) (f := fI) hsub).2
  isplitl [HI] <;> iassumption

/-- The tile owes what it owed, its further waits at no level. -/
abbrev owing (O : CellTallies nD τ sig (HIx 1)) (W : Waits sig (HIx 1)) : sProp 𝕄 :=
  iprop(∃ W', ⌜∀ p ∈ W', p ∈ W ∨ p.2 = none⌝ ∗ owes (V d c j) O W')

/-- The end of a gather: the wait, the sum of the rows, the row of the result. -/
theorem wp_finish {Q : PUnit → sProp 𝕄} (hM : M.IsWhole) (O : Memref sig .scVector .vmem S128x128 .f32)
    (Ow : CellTallies nD τ sig (HIx 1)) (W : Waits sig (HIx 1)) (q : Fin k0_t1_loop.trips) (p : Fin 8) :
    iprop(Transfers.MayWaits (V d c j) (default : HIx 1) Ow ∗ slotBusy d c j T I ft fI M s qT qI (8 * q.val + p.val) ∗ owing d c j Ow W
      ∗ holdsOut d c j O (meanBlock ((table T).view.read (Elt F) ft) (I.view.read (Elt F) fI)) (8 * q.val + p.val) 0)
    ⊢ iprop(((slotFree d c j T I ft fI M s qT qI ∗ owing d c j Ow W
        ∗ holdsOut d c j O (meanBlock ((table T).view.read (Elt F) ft) (I.view.read (Elt F) fI)) (8 * q.val + p.val + 1) 0) -∗ Q ⟨⟩)
      -∗ wpT d c j (finish T M hM s O q p) Q) := by
  unfold finish slotBusy slotFree
  iintro ⟨Hmw, ⟨%A, %B, Hfl, HB, %hAB⟩, ⟨%W', %hW', HO⟩, Hout⟩ Hk
  iapply (Transfers.wp_waitLocalO countersEmb 𝒱₀ (V d c j) none (default : HIx 1) (rfl : M.view.dmaCredit = _)) $$ [Hfl HO Hmw]
  · isplitl [Hfl]; · iexact Hfl
    isplitl [HO]; · iexact HO
    iapply (Transfers.MayWaits.elim (SemLoc.dma s.sem)) $$ Hmw
  iintro ⟨HA, Hs, HO⟩
  ihave H := hAB $$ [HA HB]; · isplitl [HA] <;> iassumption
  icases H with ⟨Hm, HT, HI⟩
  iapply (wp_sumRows d c j M _) $$ Hm
  iintro %a %ha ⟨%f, -, Hm⟩
  iapply (wp_putRow d c j O _ q p a _ ha (fun y hy => by rw [meanBlock, hy])) $$ Hout
  iintro Hout
  iapply Hk
  isplitl [Hm Hs HT HI]
  · isplitl [Hm]; · iexists f; iexact Hm
    isplitl [Hs]; · iexact Hs
    isplitl [HT]; · iexact HT
    iexact HI
  isplitl [HO]
  · iexists _; isplitr
    swap; · iexact HO
    ipureintro; intro x hx
    rcases Finset.mem_insert.mp hx with hx | hx
    · exact .inr (hx ▸ rfl)
    · exact hW' x hx
  iexact Hout

end Cert.KernelIdeal.Own
-- ==== Proof.Trip.lean ====
/-
  One trip of a tile's main loop: over the eight row buffers, the start of the gather seven rows ahead and the end of the
  oldest one.
-/
module

public import proofs.«01_k».proof.Proof.Slots

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem trips_main : k0_t1_loop.trips = 16 := by decide

variable (d : Dev nD) (c : Fin τ.nSC) (j : Fin τ.nSub)
  (T : Memref sig .scVector .hbm S100000x128 .f32) (I : Memref sig .scVector .vmem S128x64 .i32)
  (ft : Buf (Elt F) ((table T).view.loc (V d c j))) (fI : Buf (Elt F) (I.view.loc (V d c j)))
  (M : Fin 8 → Memref sig .scVector .vmem S64x128 .f32) (s : Fin 8 → DmaSems sig S_) (qT qI : Fin 8 → PosShare TreeShare)

/-- Row buffer `p` idle. -/
abbrev idle (p : Fin 8) : sProp 𝕄 := slotFree d c j T I ft fI (M p) (s p) (qT p) (qI p)
/-- Row buffer `p` under the gather of row `8 n + p`. -/
abbrev busy (n : ℕ) (p : Fin 8) : sProp 𝕄 := slotBusy d c j T I ft fI (M p) (s p) (qT p) (qI p) (8 * n + p.val)
/-- Row buffer `p` as trip `n` finds it: under its gather, or idle once there is no row left. -/
def slotAt (n : ℕ) (p : Fin 8) : sProp 𝕄 := if n < 16 then busy d c j T I ft fI M s qT qI n p else idle d c j T I ft fI M s qT qI p

theorem slotAt_lt {n : ℕ} (h : n < 16) (p : Fin 8) :
    slotAt d c j T I ft fI M s qT qI n p = busy d c j T I ft fI M s qT qI n p := if_pos h
theorem slotAt_last (p : Fin 8) : slotAt d c j T I ft fI M s qT qI 16 p = idle d c j T I ft fI M s qT qI p := if_neg (by decide)

/-- The bytes a row buffer's gather credits, row by row, are those its wait takes. -/
theorem row_credit (M : Memref sig .scVector .vmem S64x128 .f32) :
    ∑ a, (M.slice (S64x128.rowRect gathers_S100000x128_S64x128.axis' a) (S64x128.stride_rowRect gathers_S100000x128_S64x128.axis' a)).view.dmaCredit
      = M.view.dmaCredit := SparseCore.sum_rowCredit_eq_dmaCredit _ _ fun _ => rfl

/-- The conditional start of a gather begins it where a row is left. -/
theorem wp_issueIf {α : Type} {Q : α → sProp 𝕄} (hin : ∀ x, (I.view.read (Elt F) fI x).toNat < 100000)
    (C : BitVec 1) (n : ℕ) (p : Fin 8) (hC : C = 1#1 ↔ n < 16) (off : Fin 2 → ℕ)
    (h : C = 1#1 → ∀ a, off a + S1x64.size a ≤ S128x64.size a) (ho : off = ![8 * n + p.val, 0]) (k : PUnit → TileProg F c j α) :
    idle d c j T I ft fI M s qT qI p ⊢ iprop((slotAt d c j T I ft fI M s qT qI n p -∗ wpT d c j (k ⟨⟩) Q)
      -∗ wpT d c j (issueIf C T I (M p) (s p) off h >>= k) Q) := by
  unfold issueIf slotAt
  by_cases hc : C = 1#1
  · rw [dif_pos hc, if_pos (hC.mp hc)]
    simp only [bind_assoc, pure_bind]
    exact wp_issue d c j T I ft fI (M p) (s p) (qT p) (qI p) hin (row_credit (M p)) _ off (h hc) ho k
  · rw [dif_neg hc, if_neg (fun hn => hc (hC.mpr hn))]
    simp only [pure_bind]
    iintro H Hk
    iapply Hk; iexact H

/-- The end of row buffer `p`'s gather in trip `q`. -/
theorem wp_finish_slot {α : Type} {Q : α → sProp 𝕄} (hM : ∀ p, (M p).IsWhole) (O : Memref sig .scVector .vmem S128x128 .f32)
    (Ow : CellTallies nD τ sig (HIx 1)) (W : Waits sig (HIx 1)) (q : Fin k0_t1_loop.trips) (p : Fin 8)
    (n : ℕ) (hn : n = 8 * q.val + p.val) (k : PUnit → TileProg F c j α) :
    iprop(Transfers.MayWaits (V d c j) (default : HIx 1) Ow ∗ slotAt d c j T I ft fI M s qT qI q.val p ∗ owing d c j Ow W
      ∗ holdsOut d c j O (meanBlock ((table T).view.read (Elt F) ft) (I.view.read (Elt F) fI)) n 0)
    ⊢ iprop(((idle d c j T I ft fI M s qT qI p ∗ owing d c j Ow W
        ∗ holdsOut d c j O (meanBlock ((table T).view.read (Elt F) ft) (I.view.read (Elt F) fI)) (n + 1) 0)
          -∗ wpT d c j (k ⟨⟩) Q)
      -∗ wpT d c j (finish T (M p) (hM p) (s p) O q p >>= k) Q) := by
  subst hn
  rw [slotAt_lt d c j T I ft fI M s qT qI (lt_of_lt_of_eq q.isLt trips_main)]
  iintro H Hk
  iapply (wpT_bind d c j)
  iapply (wp_finish d c j T I ft fI (M p) (s p) (qT p) (qI p) (hM p) O Ow W q p) $$ H
  iexact Hk

/-- The first gather of a trip always has a row. -/
theorem cond_first : ∀ q : Fin k0_t1_loop.trips, k0_cond1 q = 1#1 ↔ q.val < 16 := by decide
/-- The further gathers of a trip have a row unless the trip is the last. -/
theorem cond_next : ∀ q : Fin k0_t1_loop.trips, (k0_cond2 q = 1#1 ↔ q.val + 1 < 16) ∧ (k0_cond3 q = 1#1 ↔ q.val + 1 < 16)
    ∧ (k0_cond4 q = 1#1 ↔ q.val + 1 < 16) ∧ (k0_cond5 q = 1#1 ↔ q.val + 1 < 16) ∧ (k0_cond6 q = 1#1 ↔ q.val + 1 < 16)
    ∧ (k0_cond7 q = 1#1 ↔ q.val + 1 < 16) ∧ (k0_cond8 q = 1#1 ↔ q.val + 1 < 16) := by decide

attribute [local irreducible] issueIf finish slotAt slotFree k0_cond1 k0_cond2 k0_cond3 k0_cond4 k0_cond5 k0_cond6 k0_cond7 k0_cond8

/-- What a tile holds before trip `n`. -/
def tripInv (O : Memref sig .scVector .vmem S128x128 .f32) (Ow : CellTallies nD τ sig (HIx 1)) (W : Waits sig (HIx 1)) (n : ℕ) : sProp 𝕄 :=
  iprop(slotAt d c j T I ft fI M s qT qI n 0 ∗ slotAt d c j T I ft fI M s qT qI n 1 ∗ slotAt d c j T I ft fI M s qT qI n 2
    ∗ slotAt d c j T I ft fI M s qT qI n 3 ∗ slotAt d c j T I ft fI M s qT qI n 4 ∗ slotAt d c j T I ft fI M s qT qI n 5
    ∗ slotAt d c j T I ft fI M s qT qI n 6 ∗ idle d c j T I ft fI M s qT qI 7 ∗ owing d c j Ow W
    ∗ holdsOut d c j O (meanBlock ((table T).view.read (Elt F) ft) (I.view.read (Elt F) fI)) (8 * n) 0)

set_option maxHeartbeats 400000 in
/-- A trip keeps what a tile holds between trips, eight rows of the result further. -/
theorem wp_trip (hin : ∀ x, (I.view.read (Elt F) fI x).toNat < 100000) (hM : ∀ p, (M p).IsWhole)
    (O : Memref sig .scVector .vmem S128x128 .f32) (Ow : CellTallies nD τ sig (HIx 1)) (W : Waits sig (HIx 1)) (q : Fin k0_t1_loop.trips) :
    iprop(Transfers.MayWaits (V d c j) (default : HIx 1) Ow ∗ tripInv d c j T I ft fI M s qT qI O Ow W q.val)
      ⊢ wpT d c j (trip T I M hM s O q) fun _ => tripInv d c j T I ft fI M s qT qI O Ow W (q.val + 1) := by
  obtain ⟨h2, h3, h4, h5, h6, h7, h8⟩ := cond_next q
  have hq : q.val < 16 := lt_of_lt_of_eq q.isLt trips_main
  have e : ∀ m : Fin 8, (![8 * q.val + 8 + m.val, 0] : Fin 2 → ℕ) = ![8 * (q.val + 1) + m.val, 0] := fun m => by
    rw [Nat.mul_add, Nat.mul_one]
  unfold trip tripInv
  iintro ⟨#Hmw, S0, S1, S2, S3, S4, S5, S6, S7, HO, Hout⟩
  iapply (wp_issueIf d c j T I ft fI M s qT qI hin (k0_cond1 q) q.val 7 (cond_first q) _ _ (k0_off2_eq q)) $$ S7; iintro S7
  iapply (wp_finish_slot d c j T I ft fI M s qT qI hM O Ow W q 0 (8 * q.val) rfl) $$ [S0 HO Hout]
  · isplitr; · iexact Hmw
    isplitl [S0]; · iexact S0
    isplitl [HO]; · iexact HO
    iexact Hout
  iintro ⟨S0, HO, Hout⟩
  iapply (wp_issueIf d c j T I ft fI M s qT qI hin (k0_cond2 q) (q.val + 1) 0 h2 _ _ ((k0_off20_eq q).trans (e 0))) $$ S0; iintro S0
  iapply (wp_finish_slot d c j T I ft fI M s qT qI hM O Ow W q 1 (8 * q.val + 1) rfl) $$ [S1 HO Hout]
  · isplitr; · iexact Hmw
    isplitl [S1]; · iexact S1
    isplitl [HO]; · iexact HO
    iexact Hout
  iintro ⟨S1, HO, Hout⟩
  iapply (wp_issueIf d c j T I ft fI M s qT qI hin (k0_cond3 q) (q.val + 1) 1 h3 _ _ ((k0_off29_eq q).trans (e 1))) $$ S1; iintro S1
  iapply (wp_finish_slot d c j T I ft fI M s qT qI hM O Ow W q 2 (8 * q.val + 2) rfl) $$ [S2 HO Hout]
  · isplitr; · iexact Hmw
    isplitl [S2]; · iexact S2
    isplitl [HO]; · iexact HO
    iexact Hout
  iintro ⟨S2, HO, Hout⟩
  iapply (wp_issueIf d c j T I ft fI M s qT qI hin (k0_cond4 q) (q.val + 1) 2 h4 _ _ ((k0_off38_eq q).trans (e 2))) $$ S2; iintro S2
  iapply (wp_finish_slot d c j T I ft fI M s qT qI hM O Ow W q 3 (8 * q.val + 3) rfl) $$ [S3 HO Hout]
  · isplitr; · iexact Hmw
    isplitl [S3]; · iexact S3
    isplitl [HO]; · iexact HO
    iexact Hout
  iintro ⟨S3, HO, Hout⟩
  iapply (wp_issueIf d c j T I ft fI M s qT qI hin (k0_cond5 q) (q.val + 1) 3 h5 _ _ ((k0_off47_eq q).trans (e 3))) $$ S3; iintro S3
  iapply (wp_finish_slot d c j T I ft fI M s qT qI hM O Ow W q 4 (8 * q.val + 4) rfl) $$ [S4 HO Hout]
  · isplitr; · iexact Hmw
    isplitl [S4]; · iexact S4
    isplitl [HO]; · iexact HO
    iexact Hout
  iintro ⟨S4, HO, Hout⟩
  iapply (wp_issueIf d c j T I ft fI M s qT qI hin (k0_cond6 q) (q.val + 1) 4 h6 _ _ ((k0_off56_eq q).trans (e 4))) $$ S4; iintro S4
  iapply (wp_finish_slot d c j T I ft fI M s qT qI hM O Ow W q 5 (8 * q.val + 5) rfl) $$ [S5 HO Hout]
  · isplitr; · iexact Hmw
    isplitl [S5]; · iexact S5
    isplitl [HO]; · iexact HO
    iexact Hout
  iintro ⟨S5, HO, Hout⟩
  iapply (wp_issueIf d c j T I ft fI M s qT qI hin (k0_cond7 q) (q.val + 1) 5 h7 _ _ ((k0_off65_eq q).trans (e 5))) $$ S5; iintro S5
  iapply (wp_finish_slot d c j T I ft fI M s qT qI hM O Ow W q 6 (8 * q.val + 6) rfl) $$ [S6 HO Hout]
  · isplitr; · iexact Hmw
    isplitl [S6]; · iexact S6
    isplitl [HO]; · iexact HO
    iexact Hout
  iintro ⟨S6, HO, Hout⟩
  iapply (wp_issueIf d c j T I ft fI M s qT qI hin (k0_cond8 q) (q.val + 1) 6 h8 _ _ ((k0_off74_eq q).trans (e 6))) $$ S6; iintro S6
  iapply (wpT_tail d c j)
  iapply (wp_finish_slot d c j T I ft fI M s qT qI hM O Ow W q 7 (8 * q.val + 7) rfl) $$ [S7 HO Hout]
  · isplitr; · iexact Hmw
    isplitl [S7]; · iexact S7
    isplitl [HO]; · iexact HO
    iexact Hout
  iintro ⟨S7, HO, Hout⟩
  iapply (wpT_ret d c j)
  iframe S0 S1 S2 S3 S4 S5 S6 S7 HO
  iexact Hout

end Cert.KernelIdeal.Own
-- ==== Proof.Body.lean ====
/-
  A tile's whole body in its parts: the copy of its block of the index array, the gathers of the first seven rows, the loop
  over the rows, the copy of its block of the result.
-/
module

public import proofs.«01_k».proof.Proof.Phase

@[expose] public section

noncomputable section

namespace Cert.KernelIdeal.Own

open Cert.KernelIdeal Cert.KernelIdeal.Gen
open Idealize.ShloMosaic
open Idealize.SL Idealize.SL.Sem

variable {F : FTy → Type} [FloatOps F]

section Coords

variable (i : grid0.Coords)

/-- The tile's SparseCore. -/
abbrev coreOf : Fin τ.nSC := (i 0).castLE hcore0
/-- The tile's vector subcore. -/
abbrev subOf : Fin τ.nSub := (i 1).castLE hsub0

/-- The tile's block of the index array. -/
abbrev indexBlock (A : Memref sig .scVector .hbm S32x128x64 .i32) : Memref sig .scVector .hbm S128x64 .i32 :=
  (A.slice (Rect.unit (s := S32x128x64) (k0_off1 i) S1x128x64.size (k0_off1_inb i)) (fun _ => rfl)).squeeze S128x64 squeezes_S1x128x64_S128x64
/-- The tile's block of the result. -/
abbrev resultBlock (A : Memref sig .scVector .hbm S4096x128 .f32) : Memref sig .scVector .hbm S128x128 .f32 :=
  A.slice (Rect.unit (s := S4096x128) (k0_off83 i) S128x128.size (k0_off83_inb i)) (fun _ => rfl)

/-- The copy of the tile's block of the index array into its index block, and the wait for it. -/
def fetch (A : Memref sig .scVector .hbm S32x128x64 .i32) (I : Memref sig .scVector .vmem S128x64 .i32) (hI : I.IsWhole) (r : DmaSems sig S_) :
    TileProg F (coreOf i) (subOf i) PUnit := do
  Prog.lift (.enqueueDma (indexBlock i A) (.here I) (.dma r.sem) ((View.wordExact_bits rfl).reshape _ _) hI.wordExact ⟨Or.inl rfl, trivial⟩)
  Prog.lift (.waitDma2 r.sem (indexBlock i A) I ((View.wordExact_bits rfl).reshape _ _) hI.wordExact)

/-- The copy of the tile's result block into its place in the result, and the wait for it. -/
def flush (A : Memref sig .scVector .hbm S4096x128 .f32) (O : Memref sig .scVector .vmem S128x128 .f32) (hO : O.IsWhole) (r : DmaSems sig S_) :
    TileProg F (coreOf i) (subOf i) PUnit := do
  Prog.lift (.enqueueDma O (.here (resultBlock i A)) (.dma r.sem) hO.wordExact (View.wordExact_bits rfl) ⟨Or.inl rfl, trivial⟩)
  Prog.lift (.waitDma2 r.sem O (resultBlock i A) hO.wordExact (View.wordExact_bits rfl))

/-- A tile's body. -/
def tileProg (T : Memref sig .scVector .hbm S100000x128 .f32) (A : Memref sig .scVector .hbm S32x128x64 .i32)
    (C : Memref sig .scVector .hbm S4096x128 .f32) (I : Memref sig .scVector .vmem S128x64 .i32) (hI : I.IsWhole)
    (M : Fin 8 → Memref sig .scVector .vmem S64x128 .f32) (hM : ∀ p, (M p).IsWhole) (s : Fin 8 → DmaSems sig S_)
    (O : Memref sig .scVector .vmem S128x128 .f32) (hO : O.IsWhole) (r r' : DmaSems sig S_) : TileProg F (coreOf i) (subOf i) PUnit := do
  fetch i A I hI r
  issue T I (M 0) (s 0) ![0, 0] inb_S128x64_S1x64_0_0
  issue T I (M 1) (s 1) ![1, 0] inb_S128x64_S1x64_1_0
  issue T I (M 2) (s 2) ![2, 0] inb_S128x64_S1x64_2_0
  issue T I (M 3) (s 3) ![3, 0] inb_S128x64_S1x64_3_0
  issue T I (M 4) (s 4) ![4, 0] inb_S128x64_S1x64_4_0
  issue T I (M 5) (s 5) ![5, 0] inb_S128x64_S1x64_5_0
  issue T I (M 6) (s 6) ![6, 0] inb_S128x64_S1x64_6_0
  Scf.Loop.for k0_t1_loop k0_t1_ok ⟨⟩ (fun q _ => trip T I M hM s O q)
  flush i C O hO r'

variable
  (arg2 : Memref sig .scVector .hbm S100000x128 .f32) (harg2 : arg2.IsWhole) (arg3 : Memref sig .scVector .hbm S32x128x64 .i32) (harg3 : arg3.IsWhole) (arg4 : Memref sig .scVector .hbm S4096x128 .f32) (harg4 : arg4.IsWhole) (arg5 : Memref sig .scVector .vmem S128x64 .i32) (harg5 : arg5.IsWhole) (arg6 : Memref sig .scVector .vmem S64x128 .f32) (harg6 : arg6.IsWhole) (arg7 : Memref sig .scVector .vmem S64x128 .f32) (harg7 : arg7.IsWhole) (arg8 : Memref sig .scVector .vmem S64x128 .f32) (harg8 : arg8.IsWhole) (arg9 : Memref sig .scVector .vmem S64x128 .f32) (harg9 : arg9.IsWhole) (arg10 : Memref sig .scVector .vmem S64x128 .f32) (harg10 : arg10.IsWhole) (arg11 : Memref sig .scVector .vmem S64x128 .f32) (harg11 : arg11.IsWhole) (arg12 : Memref sig .scVector .vmem S64x128 .f32) (harg12 : arg12.IsWhole) (arg13 : Memref sig .scVector .vmem S64x128 .f32) (harg13 : arg13.IsWhole) (arg14 : Memref sig .scVector .vmem S128x128 .f32) (harg14 : arg14.IsWhole) (arg15 : DmaSems sig S_) (arg16 : DmaSems sig S_) (arg17 : DmaSems sig S_) (arg18 : DmaSems sig S_) (arg19 : DmaSems sig S_) (arg20 : DmaSems sig S_) (arg21 : DmaSems sig S_) (arg22 : DmaSems sig S_) (v25_r0 : DmaSems sig S_) (v25_r1 : DmaSems sig S_)

set_option maxRecDepth 65536 in
/-- The printed body is the body stated above. -/
theorem body_eq :
    cc0_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 arg22 v25_r0 v25_r1
      = tileProg i arg2 arg3 arg4 arg5 harg5 ![arg6, arg7, arg8, arg9, arg10, arg11, arg12, arg13] (fun p => by fin_cases p <;> assumption)
          ![arg15, arg16, arg17, arg18, arg19, arg20, arg21, arg22] arg14 harg14 v25_r0 v25_r1 := by
  rw [cc0_body_eq_skeleton]
  unfold cc0_body_skel tileProg fetch flush
  have e : k0_t1_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 arg22 v25_r0 v25_r1 = fun q _ => trip arg2 arg5 ![arg6, arg7, arg8, arg9, arg10, arg11, arg12, arg13]
      (fun p => by fin_cases p <;> assumption) ![arg15, arg16, arg17, arg18, arg19, arg20, arg21, arg22] arg14 q :=
    funext fun q => funext fun u => t1_body_eq _ _ _ _ _ _ _ _ _ _ _ _ _ _ _ _ _ _ _ _ _ _ _ _ _ _ _ _ _ _ _ _ _ _ _ _ _ _ _
  simp only [e, k0_part68_eq_skeleton, k0_part68_skel, bind_assoc, pure_bind]
  rfl

end Coords

end Cert.KernelIdeal.Own
-- ==== Proof.Tile.lean ====
/-
  The run of a tile's whole body: from its share of the table, its block of the index array, its block of the result and
  its own buffers and semaphores, to the same with the block of the result at the means.
-/
module

public import proofs.«01_k».proof.Proof.Trip
public import proofs.«01_k».proof.Proof.Body

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The `p`-th of the eight pieces of a share, one for each row buffer. -/
abbrev eighth (q : PosShare TreeShare) (p : Fin 8) : PosShare TreeShare := pieceOf q 8 (by decide) p

/-- A family over the eight row buffers, one after the other. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Elements held at a share are held at its eight pieces. -/
theorem pointsTo_eighths {ℓ : Loc nD τ sig} (A : Finset (Idx ℓ)) (f : Buf (Elt F) ℓ) (q : PosShare TreeShare) :
    (ℓ ↦[A]{q} f : sProp 𝕄) = iprop((ℓ ↦[A]{eighth q 0} f) ∗ (ℓ ↦[A]{eighth q 1} f) ∗ (ℓ ↦[A]{eighth q 2} f) ∗ (ℓ ↦[A]{eighth q 3} f)
      ∗ (ℓ ↦[A]{eighth q 4} f) ∗ (ℓ ↦[A]{eighth q 5} f) ∗ (ℓ ↦[A]{eighth q 6} f) ∗ (ℓ ↦[A]{eighth q 7} f)) := by
  rw [pointsTo_piecesOf A f (o := 8) (by decide) q, bigSep_eight]

section Copy

variable (d : Dev nD) (c : Fin τ.nSC) (j : Fin τ.nSub)

/-- A memref's elements at contents `f`. -/
abbrev pts {sp : Space} {s : Shape} {e : EltTy} (m : Memref sig .scVector sp s e) (f : Buf (Elt F) (m.view.loc (V d c j))) : sProp 𝕄 :=
  m.view.loc (V d c j) ↦[m.view.set]{fullShare} f

/-- A copy and its wait: the destination reads what the source does. -/
theorem wp_copy {α : Type} {Q : α → sProp 𝕄} {sp sp' : Space} {s : Shape} {e : EltTy} (src : Memref sig .scVector sp s e) (dst : Memref sig .scVector sp' s e)
    (r : DmaSem sig) (hsrc : src.view.WordExact) (hdst : dst.view.WordExact) (ht : DmaTarget.Typed (nD := nD) sp (.dma r) (.here dst : DmaTarget nD τ sig (.scVector c j) sp' s e))
    (hw : src.view.WordExact) (hw' : dst.view.WordExact) (hs : 0 < s.numel)
    (Ow : CellTallies nD τ sig (HIx 1)) (W : Waits sig (HIx 1)) (fs : Buf (Elt F) (src.view.loc (V d c j))) (fd : Buf (Elt F) (dst.view.loc (V d c j)))
    (k : PUnit → TileProg F c j α) :
    iprop(Transfers.MayWaits (V d c j) (default : HIx 1) Ow ∗ pts d c j src fs ∗ pts d c j dst fd ∗ semVal (V d c j, SemLoc.dma r) 0 ∗ owing d c j Ow W)
      ⊢ iprop(((pts d c j src fs ∗ (∃ f, ⌜dst.view.read (Elt F) f = src.view.read (Elt F) fs⌝ ∗ pts d c j dst f) ∗ semVal (V d c j, SemLoc.dma r) 0 ∗ owing d c j Ow W)
            -∗ wpT d c j (k ⟨⟩) Q)
        -∗ wpT d c j ((do
              Prog.lift (.enqueueDma src (.here dst) (.dma r) hsrc hdst ht)
              Prog.lift (.waitDma2 r src dst hw hw') : TileProg F c j PUnit) >>= k) Q) := by
  iintro ⟨Hmw, Hs, Hd, Hr, ⟨%W', %hW', HO⟩⟩ Hk
  iapply (Transfers.wp_dmaLocal countersEmb 𝒱₀ (V d c j) none (default : HIx 1) dst.view.dmaCredit rfl (View.dmaCredit_pos _ hs) (Finset.Subset.refl _)) $$ [Hs Hd Hr]
  · isplitl [Hs]; · iexact Hs
    isplitl [Hd]; · iexact Hd
    iexact Hr
  iintro Hfl
  iapply (Transfers.wp_waitLocalO countersEmb 𝒱₀ (V d c j) none (default : HIx 1) (rfl : dst.view.dmaCredit = _)) $$ [Hfl HO Hmw]
  · isplitl [Hfl]; · iexact Hfl
    isplitl [HO]; · iexact HO
    iapply (Transfers.MayWaits.elim (SemLoc.dma r)) $$ Hmw
  iintro ⟨⟨Hd, Hs⟩, Hr, HO⟩
  iapply Hk
  isplitl [Hs]; · iexact Hs
  isplitl [Hd]
  · iexists _; isplitr
    swap; · iexact Hd
    ipureintro; rw [View.read_write_univ]
  isplitl [Hr]; · iexact Hr
  iexists _; isplitr
  swap; · iexact HO
  ipureintro; intro x hx
  rcases Finset.mem_insert.mp hx with hx | hx
  · exact .inr (hx ▸ rfl)
  · exact hW' x hx

end Copy

variable (d : Dev nD) (i : grid0.Coords)
  (T : Memref sig .scVector .hbm S100000x128 .f32) (A : Memref sig .scVector .hbm S32x128x64 .i32) (C : Memref sig .scVector .hbm S4096x128 .f32)
  (I : Memref sig .scVector .vmem S128x64 .i32) (M : Fin 8 → Memref sig .scVector .vmem S64x128 .f32) (s : Fin 8 → DmaSems sig S_)
  (O : Memref sig .scVector .vmem S128x128 .f32) (r r' : DmaSems sig S_)

/-- A tile's own semaphore at zero. -/
abbrev semZero (x : DmaSems sig S_) : sProp 𝕄 := semVal (V d (coreOf i) (subOf i), SemLoc.dma x.sem) 0
/-- One of a tile's own buffers, at whatever contents. -/
abbrev some' {sp : Space} {s : Shape} {e : EltTy} (m : Memref sig .scVector sp s e) : sProp 𝕄 :=
  iprop(∃ f, pts (F := F) d (coreOf i) (subOf i) m f)

/-- A tile's own buffers and semaphores. -/
abbrev scratch : sProp 𝕄 :=
  iprop(some' (F := F) d i I ∗ some' (F := F) d i (M 0) ∗ some' (F := F) d i (M 1) ∗ some' (F := F) d i (M 2) ∗ some' (F := F) d i (M 3)
    ∗ some' (F := F) d i (M 4) ∗ some' (F := F) d i (M 5) ∗ some' (F := F) d i (M 6) ∗ some' (F := F) d i (M 7) ∗ some' (F := F) d i O
    ∗ semZero d i (s 0) ∗ semZero d i (s 1) ∗ semZero d i (s 2) ∗ semZero d i (s 3) ∗ semZero d i (s 4) ∗ semZero d i (s 5) ∗ semZero d i (s 6)
    ∗ semZero d i (s 7) ∗ semZero d i r ∗ semZero d i r')

/-- An idle row buffer from its parts. -/
theorem slotFree_intro (c : Fin τ.nSC) (j : Fin τ.nSub) (ft : Buf (Elt F) ((table T).view.loc (V d c j))) (fI : Buf (Elt F) (I.view.loc (V d c j)))
    (M : Memref sig .scVector .vmem S64x128 .f32) (s : DmaSems sig S_) (qT qI : PosShare TreeShare) :
    ⊢ iprop((∃ f, pts (F := F) d c j M f) -∗ semVal (V d c j, SemLoc.dma s.sem) 0 -∗ tableShare d c j T ft qT -∗ listShare d c j I fI qI
      -∗ slotFree d c j T I ft fI M s qT qI) := by
  unfold slotFree
  iintro HM Hs HT HI
  isplitl [HM]; · iexact HM
  isplitl [Hs]; · iexact Hs
  isplitl [HT]; · iexact HT
  iexact HI

/-- The parts of an idle row buffer. -/
theorem slotFree_elim (c : Fin τ.nSC) (j : Fin τ.nSub) (ft : Buf (Elt F) ((table T).view.loc (V d c j))) (fI : Buf (Elt F) (I.view.loc (V d c j)))
    (M : Memref sig .scVector .vmem S64x128 .f32) (s : DmaSems sig S_) (qT qI : PosShare TreeShare) :
    slotFree d c j T I ft fI M s qT qI ⊢ iprop((∃ f, pts (F := F) d c j M f) ∗ semVal (V d c j, SemLoc.dma s.sem) 0 ∗ tableShare d c j T ft qT
      ∗ listShare d c j I fI qI) := by
  unfold slotFree; exact .rfl

section Ends

variable (c : Fin τ.nSC) (j : Fin τ.nSub) (ft : Buf (Elt F) ((table T).view.loc (V d c j))) (fI : Buf (Elt F) (I.view.loc (V d c j)))
  (qT qI : Fin 8 → PosShare TreeShare) (Ow : CellTallies nD τ sig (HIx 1)) (W : Waits sig (HIx 1))

/-- What a tile holds before the first trip: seven row buffers under the gathers of the first seven rows. -/
theorem tripInv_zero :
    ⊢ iprop(busy d c j T I ft fI M s qT qI 0 0 -∗ busy d c j T I ft fI M s qT qI 0 1 -∗ busy d c j T I ft fI M s qT qI 0 2
      -∗ busy d c j T I ft fI M s qT qI 0 3 -∗ busy d c j T I ft fI M s qT qI 0 4 -∗ busy d c j T I ft fI M s qT qI 0 5
      -∗ busy d c j T I ft fI M s qT qI 0 6 -∗ idle d c j T I ft fI M s qT qI 7 -∗ owing d c j Ow W
      -∗ holdsOut d c j O (meanBlock ((table T).view.read (Elt F) ft) (I.view.read (Elt F) fI)) 0 0
      -∗ tripInv d c j T I ft fI M s qT qI O Ow W 0) := by
  unfold tripInv
  simp only [slotAt_lt d c j T I ft fI M s qT qI (n := 0) (by decide)]
  iintro B0 B1 B2 B3 B4 B5 B6 S7 HO Hout
  iframe B0 B1 B2 B3 B4 B5 B6 S7 HO
  iexact Hout

/-- What a tile holds after the last trip: every row buffer idle, the result block filled. -/
theorem tripInv_end :
    tripInv d c j T I ft fI M s qT qI O Ow W k0_t1_loop.trips
      ⊢ iprop((idle d c j T I ft fI M s qT qI 0 ∗ idle d c j T I ft fI M s qT qI 1 ∗ idle d c j T I ft fI M s qT qI 2
        ∗ idle d c j T I ft fI M s qT qI 3 ∗ idle d c j T I ft fI M s qT qI 4 ∗ idle d c j T I ft fI M s qT qI 5
        ∗ idle d c j T I ft fI M s qT qI 6 ∗ idle d c j T I ft fI M s qT qI 7) ∗ owing d c j Ow W
        ∗ ∃ f, ⌜O.view.read (Elt F) f = meanBlock ((table T).view.read (Elt F) ft) (I.view.read (Elt F) fI)⌝ ∗ pts d c j O f) := by
  unfold tripInv
  rw [trips_main]
  simp only [slotAt_last]
  iintro ⟨S0, S1, S2, S3, S4, S5, S6, S7, HO, ⟨%f, %hf, Hout⟩⟩
  isplitl [S0 S1 S2 S3 S4 S5 S6 S7]
  · iframe S0 S1 S2 S3 S4 S5 S6
    iexact S7
  isplitl [HO]; · iexact HO
  iexists f; isplitr
  swap; · iexact Hout
  ipureintro; funext y
  have hy : (y 0).val < 128 := (y 0).isLt
  exact hf y (.inl hy)

/-- A trip, the waits' evidence kept. -/
theorem wp_trip_frame (hin : ∀ x, (I.view.read (Elt F) fI x).toNat < 100000) (hM : ∀ p, (M p).IsWhole) (n : Fin k0_t1_loop.trips) :
    iprop(Transfers.MayWaits (V d c j) (default : HIx 1) Ow ∗ tripInv d c j T I ft fI M s qT qI O Ow W n.val)
      ⊢ wpT d c j (trip T I M hM s O n) fun _ =>
        iprop(Transfers.MayWaits (V d c j) (default : HIx 1) Ow ∗ tripInv d c j T I ft fI M s qT qI O Ow W (n.val + 1)) := by
  iintro ⟨#Hmw, H⟩
  iapply (wp_wand_r frame (wpE (defs₀ (F := F)) 𝒱₀ (V d c j) none) Set.univ)
  isplitl
  · iapply (wp_trip d c j T I ft fI M s qT qI hin hM O Ow W n)
    isplitr; · iexact Hmw
    iexact H
  iintro %u H
  isplitr; · iexact Hmw
  iexact H

end Ends

attribute [local irreducible] issue trip slotFree slotAt

/-- A tile's body fills its block of the result with the means of the rows its block of the index array names. -/
theorem wp_tileProg {Q : PUnit → sProp 𝕄} (hI : I.IsWhole) (hM : ∀ p, (M p).IsWhole) (hO : O.IsWhole)
    (Ow : CellTallies nD τ sig (HIx 1)) (W : Waits sig (HIx 1)) (q : PosShare TreeShare)
    (ft : Buf (Elt F) ((table T).view.loc (V d (coreOf i) (subOf i)))) (fA : Buf (Elt F) ((indexBlock i A).view.loc (V d (coreOf i) (subOf i))))
    (fC : Buf (Elt F) ((resultBlock i C).view.loc (V d (coreOf i) (subOf i))))
    (hin : ∀ x, ((indexBlock i A).view.read (Elt F) fA x).toNat < 100000) :
    iprop(Transfers.MayWaits (V d (coreOf i) (subOf i)) (default : HIx 1) Ow
        ∗ tableShare d (coreOf i) (subOf i) T ft q ∗ pts d (coreOf i) (subOf i) (indexBlock i A) fA ∗ pts d (coreOf i) (subOf i) (resultBlock i C) fC
        ∗ scratch (F := F) d i I M s O r r' ∗ owing d (coreOf i) (subOf i) Ow W)
      ⊢ iprop(((tableShare d (coreOf i) (subOf i) T ft q ∗ pts d (coreOf i) (subOf i) (indexBlock i A) fA
            ∗ (∃ f, ⌜(resultBlock i C).view.read (Elt F) f = meanBlock ((table T).view.read (Elt F) ft) ((indexBlock i A).view.read (Elt F) fA)⌝
                ∗ pts d (coreOf i) (subOf i) (resultBlock i C) f)
            ∗ scratch (F := F) d i I M s O r r' ∗ owing d (coreOf i) (subOf i) Ow W) -∗ Q ⟨⟩)
        -∗ wpT d (coreOf i) (subOf i) (tileProg i T A C I hI M hM s O hO r r') Q) := by
  unfold tileProg fetch flush
  iintro ⟨#Hmw, HT, HA, HC, ⟨⟨%fI, HI⟩, M0, M1, M2, M3, M4, M5, M6, M7, ⟨%fO, Hout⟩, s0, s1, s2, s3, s4, s5, s6, s7, Hr, Hr'⟩, HO⟩ Hk
  iapply (wp_copy d (coreOf i) (subOf i) (indexBlock i A) I r.sem _ _ _ _ _ (by decide) Ow W fA fI) $$ [HA HI Hr HO]
  · isplitr; · iexact Hmw
    isplitl [HA]; · iexact HA
    isplitl [HI]; · iexact HI
    isplitl [Hr]; · iexact Hr
    iexact HO
  iintro ⟨HA, ⟨%fI, %hfI, HI⟩, Hr, HO⟩
  rw [← hfI] at hin
  rw [← hfI]
  ihave HT := (Entails.of_eq (pointsTo_eighths _ ft q)) $$ HT
  icases HT with ⟨T0, T1, T2, T3, T4, T5, T6, T7⟩
  ihave HI := (Entails.of_eq (pointsTo_eighths _ fI fullShare)) $$ HI
  icases HI with ⟨I0, I1, I2, I3, I4, I5, I6, I7⟩
  iapply (wp_issue d (coreOf i) (subOf i) T I ft fI (M 0) (s 0) (eighth q 0) (eighth fullShare 0) hin (row_credit (M 0)) 0 _ _ rfl) $$ [M0 s0 T0 I0]
  · iapply (slotFree_intro d T I (coreOf i) (subOf i) ft fI (M 0) (s 0) (eighth q 0) (eighth fullShare 0)) $$ M0 s0 T0 I0
  iintro B0
  iapply (wp_issue d (coreOf i) (subOf i) T I ft fI (M 1) (s 1) (eighth q 1) (eighth fullShare 1) hin (row_credit (M 1)) 1 _ _ rfl) $$ [M1 s1 T1 I1]
  · iapply (slotFree_intro d T I (coreOf i) (subOf i) ft fI (M 1) (s 1) (eighth q 1) (eighth fullShare 1)) $$ M1 s1 T1 I1
  iintro B1
  iapply (wp_issue d (coreOf i) (subOf i) T I ft fI (M 2) (s 2) (eighth q 2) (eighth fullShare 2) hin (row_credit (M 2)) 2 _ _ rfl) $$ [M2 s2 T2 I2]
  · iapply (slotFree_intro d T I (coreOf i) (subOf i) ft fI (M 2) (s 2) (eighth q 2) (eighth fullShare 2)) $$ M2 s2 T2 I2
  iintro B2
  iapply (wp_issue d (coreOf i) (subOf i) T I ft fI (M 3) (s 3) (eighth q 3) (eighth fullShare 3) hin (row_credit (M 3)) 3 _ _ rfl) $$ [M3 s3 T3 I3]
  · iapply (slotFree_intro d T I (coreOf i) (subOf i) ft fI (M 3) (s 3) (eighth q 3) (eighth fullShare 3)) $$ M3 s3 T3 I3
  iintro B3
  iapply (wp_issue d (coreOf i) (subOf i) T I ft fI (M 4) (s 4) (eighth q 4) (eighth fullShare 4) hin (row_credit (M 4)) 4 _ _ rfl) $$ [M4 s4 T4 I4]
  · iapply (slotFree_intro d T I (coreOf i) (subOf i) ft fI (M 4) (s 4) (eighth q 4) (eighth fullShare 4)) $$ M4 s4 T4 I4
  iintro B4
  iapply (wp_issue d (coreOf i) (subOf i) T I ft fI (M 5) (s 5) (eighth q 5) (eighth fullShare 5) hin (row_credit (M 5)) 5 _ _ rfl) $$ [M5 s5 T5 I5]
  · iapply (slotFree_intro d T I (coreOf i) (subOf i) ft fI (M 5) (s 5) (eighth q 5) (eighth fullShare 5)) $$ M5 s5 T5 I5
  iintro B5
  iapply (wp_issue d (coreOf i) (subOf i) T I ft fI (M 6) (s 6) (eighth q 6) (eighth fullShare 6) hin (row_credit (M 6)) 6 _ _ rfl) $$ [M6 s6 T6 I6]
  · iapply (slotFree_intro d T I (coreOf i) (subOf i) ft fI (M 6) (s 6) (eighth q 6) (eighth fullShare 6)) $$ M6 s6 T6 I6
  iintro B6
  iapply (Scf.wp_for_bind frame (wpE (defs₀ (F := F)) 𝒱₀ (V d (coreOf i) (subOf i)) none) Set.univ _ _ _ k0_t1_ok ⟨⟩ (fun q _ => trip T I M hM s O q)
    (fun n _ => iprop(Transfers.MayWaits (V d (coreOf i) (subOf i)) (default : HIx 1) Ow ∗ tripInv d (coreOf i) (subOf i) T I ft fI M s (eighth q) (eighth fullShare) O Ow W n)) (fun n _ => by
      iintro ⟨#Hmw, H⟩
      iapply (wp_trip_frame d T I M s O (coreOf i) (subOf i) ft fI (eighth q) (eighth fullShare) Ow W hin hM n)
      isplitr; · iexact Hmw
      iexact H)) $$ [B0 B1 B2 B3 B4 B5 B6 M7 s7 T7 I7 HO Hout]
  · isplitr; · iexact Hmw
    iapply (tripInv_zero d T I M s O (coreOf i) (subOf i) ft fI (eighth q) (eighth fullShare) Ow W) $$ B0 B1 B2 B3 B4 B5 B6 [M7 s7 T7 I7] HO
    · iapply (slotFree_intro d T I (coreOf i) (subOf i) ft fI (M 7) (s 7) (eighth q 7) (eighth fullShare 7)) $$ M7 s7 T7 I7
    · iexists fO; isplitr
      swap; · iexact Hout
      ipureintro; intro y hy; omega
  iintro %u ⟨-, H⟩
  ihave H := (tripInv_end d T I M s O (coreOf i) (subOf i) ft fI (eighth q) (eighth fullShare) Ow W) $$ H
  icases H with ⟨⟨S0, S1, S2, S3, S4, S5, S6, S7⟩, HO, ⟨%gO, %hgO, Hout⟩⟩
  ihave S0 := (slotFree_elim d T I (coreOf i) (subOf i) ft fI (M 0) (s 0) (eighth q 0) (eighth fullShare 0)) $$ S0
  icases S0 with ⟨M0, s0, T0, I0⟩
  ihave S1 := (slotFree_elim d T I (coreOf i) (subOf i) ft fI (M 1) (s 1) (eighth q 1) (eighth fullShare 1)) $$ S1
  icases S1 with ⟨M1, s1, T1, I1⟩
  ihave S2 := (slotFree_elim d T I (coreOf i) (subOf i) ft fI (M 2) (s 2) (eighth q 2) (eighth fullShare 2)) $$ S2
  icases S2 with ⟨M2, s2, T2, I2⟩
  ihave S3 := (slotFree_elim d T I (coreOf i) (subOf i) ft fI (M 3) (s 3) (eighth q 3) (eighth fullShare 3)) $$ S3
  icases S3 with ⟨M3, s3, T3, I3⟩
  ihave S4 := (slotFree_elim d T I (coreOf i) (subOf i) ft fI (M 4) (s 4) (eighth q 4) (eighth fullShare 4)) $$ S4
  icases S4 with ⟨M4, s4, T4, I4⟩
  ihave S5 := (slotFree_elim d T I (coreOf i) (subOf i) ft fI (M 5) (s 5) (eighth q 5) (eighth fullShare 5)) $$ S5
  icases S5 with ⟨M5, s5, T5, I5⟩
  ihave S6 := (slotFree_elim d T I (coreOf i) (subOf i) ft fI (M 6) (s 6) (eighth q 6) (eighth fullShare 6)) $$ S6
  icases S6 with ⟨M6, s6, T6, I6⟩
  ihave S7 := (slotFree_elim d T I (coreOf i) (subOf i) ft fI (M 7) (s 7) (eighth q 7) (eighth fullShare 7)) $$ S7
  icases S7 with ⟨M7, s7, T7, I7⟩
  ihave HT := (Entails.of_eq (pointsTo_eighths _ ft q).symm) $$ [T0 T1 T2 T3 T4 T5 T6 T7]
  · isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  ihave HI := (Entails.of_eq (pointsTo_eighths (ℓ := I.view.loc (V d (coreOf i) (subOf i))) I.view.set fI fullShare).symm) $$ [I0 I1 I2 I3 I4 I5 I6 I7]
  · isplitl [I0]; · iexact I0
    isplitl [I1]; · iexact I1
    isplitl [I2]; · iexact I2
    isplitl [I3]; · iexact I3
    isplitl [I4]; · iexact I4
    isplitl [I5]; · iexact I5
    isplitl [I6]; · iexact I6
    iexact I7
  iapply (wpT_tail d (coreOf i) (subOf i))
  iapply (wp_copy d (coreOf i) (subOf i) O (resultBlock i C) r'.sem _ _ _ _ _ (by decide) Ow W gO fC) $$ [Hout HC Hr' HO]
  · isplitr; · iexact Hmw
    isplitl [Hout]; · iexact Hout
    isplitl [HC]; · iexact HC
    isplitl [Hr']; · iexact Hr'
    iexact HO
  iintro ⟨Hout, ⟨%fC', %hfC, HC⟩, Hr', HO⟩
  iapply (wpT_ret d (coreOf i) (subOf i))
  iapply Hk
  isplitl [HT]; · iexact HT
  isplitl [HA]; · iexact HA
  isplitl [HC]
  · iexists fC'; isplitr
    · ipureintro; exact hfC.trans hgO
    · iexact HC
  isplitr [HO]; swap; · iexact HO
  isplitl [HI]
  · iexists fI; iexact HI
  isplitl [M0]; · iexact M0
  isplitl [M1]; · iexact M1
  isplitl [M2]; · iexact M2
  isplitl [M3]; · iexact M3
  isplitl [M4]; · iexact M4
  isplitl [M5]; · iexact M5
  isplitl [M6]; · iexact M6
  isplitl [M7]; · iexact M7
  isplitl [Hout]; · iexists gO; iexact Hout
  isplitl [s0]; · iexact s0
  isplitl [s1]; · iexact s1
  isplitl [s2]; · iexact s2
  isplitl [s3]; · iexact s3
  isplitl [s4]; · iexact s4
  isplitl [s5]; · iexact s5
  isplitl [s6]; · iexact s6
  isplitl [s7]; · iexact s7
  isplitl [Hr]; · iexact Hr
  iexact Hr'

end Cert.KernelIdeal.Own
-- ==== Proof.Blocks.lean ====
/-
  Where the tiles' blocks lie in the arrays, and what they read there: block `w` of the index array holds the index rows
  from `128 * w` on, and block `w` of the result is the rows from `128 * w` on.
-/
module

public import proofs.«01_k».proof.Proof.Tile

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The array of node features. -/
abbrev featsLoc (d : Dev nD) : Loc nD τ sig := (SparseCore.T d).loc main_arg0
/-- The array of node numbers, as the program takes it. -/
abbrev nodesLoc (d : Dev nD) : Loc nD τ sig := (SparseCore.T d).loc main_arg1
/-- The array of node numbers, as the tiles read it. -/
abbrev listsLoc (d : Dev nD) : Loc nD τ sig := (SparseCore.T d).loc main_v1
/-- The result. -/
abbrev outLoc (d : Dev nD) : Loc nD τ sig := (SparseCore.T d).loc main_v2

/-- The node numbers in the tiles' layout: 32 blocks of 128 rows. -/
def listsOf (a : S4096x64.Idx → BitVec 32) : S32x128x64.Idx → BitVec 32 :=
  shapeCast S32x128x64 (shapeCast S262144 a shapeCasts_S4096x64_S262144) shapeCasts_S262144_S32x128x64

/-- Element `(b, k)` of the array of node numbers. -/
def nodeCell (b k : ℕ) : S4096x64.Idx := fun
  | 0 => ⟨b % 4096, Nat.mod_lt _ (by decide)⟩
  | 1 => ⟨k % 64, Nat.mod_lt _ (by decide)⟩

/-- The kernel's result: of each row of node numbers, the mean of the features of the nodes it names. -/
def means (tb : S100000x128.Idx → F .f32) (a : S4096x64.Idx → BitVec 32) : S4096x128.Idx → F .f32 :=
  fun y => meanAt (fun z : S64x128.Idx => tb (tableCell (a (nodeCell (y 0).val (z 0).val)).toNat (z 1).val)) (y 1).val

/-- Element `(w, g, k)` of the blocks is element `(128 * w + g, k)` of the array. -/
theorem listsOf_apply (a : S4096x64.Idx → BitVec 32) (x : S32x128x64.Idx) :
    listsOf a x = a (nodeCell (128 * (x 0).val + (x 1).val) (x 2).val) := by
  have h0 : (x 0).val < 32 := (x 0).isLt
  have h1 : (x 1).val < 128 := (x 1).isLt
  have h2 : (x 2).val < 64 := (x 2).isLt
  unfold listsOf
  have hlt : ((x 0).val * 128 + (x 1).val) * 64 + (x 2).val < 262144 := by omega
  rw [shapeCast_apply _ _ x (fun | 0 => ⟨((x 0).val * 128 + (x 1).val) * 64 + (x 2).val, hlt⟩ : S262144.Idx)
    (by rw [Shape.rowMajor_val_one, Shape.rowMajor_val_three]; rfl),
    shapeCast_apply _ _ _ (nodeCell (128 * (x 0).val + (x 1).val) (x 2).val)
    (by
      rw [Shape.rowMajor_val_one, Shape.rowMajor_val_two]
      show (128 * (x 0).val + (x 1).val) % 4096 * 64 + (x 2).val % 64 = ((x 0).val * 128 + (x 1).val) * 64 + (x 2).val
      omega)]

/-! ## The blocks -/

/-- The index array is cut into 32 blocks. -/
theorem lists_cut : 32 ∣ S32x128x64.size 0 := ⟨1, rfl⟩
/-- The result is cut into 32 blocks. -/
theorem out_cut : 32 ∣ S4096x128.size 0 := ⟨128, rfl⟩

/-- Block `w` of the index array. -/
abbrev listsPart (w : Fin 32) : Finset S32x128x64.Idx := (Rect.part (s := S32x128x64) (a₀ := 0) lists_cut w).set
/-- Block `w` of the result. -/
abbrev outPart (w : Fin 32) : Finset S4096x128.Idx := (Rect.part (s := S4096x128) (a₀ := 0) out_cut w).set
/-- Share `w` of the 32 shares of the features. -/
abbrev featsPart (w : Fin 32) : PosShare TreeShare := pieceOf fullShare 32 (by decide) w

/-- The features held whole are held at the 32 shares. -/
theorem feats_parts (d : Dev nD) (f : Buf (Elt F) (featsLoc d)) :
    (featsLoc d ↦{fullShare} f : sProp 𝕄) = bigSep Finset.univ fun w : Fin 32 => featsLoc d ↦{featsPart w} f :=
  pointsTo_piecesOf Finset.univ f (by decide) fullShare

/-- The index array held whole is held block by block. -/
theorem lists_parts (d : Dev nD) (f : Buf (Elt F) (listsLoc d)) :
    (listsLoc d ↦{fullShare} f : sProp 𝕄) = bigSep Finset.univ fun w : Fin 32 => listsLoc d ↦[listsPart w]{fullShare} f := by
  rw [← pointsTo_biUnion Finset.univ (ℓ := listsLoc d) listsPart fun _ _ _ _ h => Rect.part_disjoint lists_cut h]
  rw [show Finset.univ.biUnion listsPart = Finset.univ from Rect.biUnion_part lists_cut]

/-- The result held whole is held block by block. -/
theorem out_parts (d : Dev nD) (f : Buf (Elt F) (outLoc d)) :
    (outLoc d ↦{fullShare} f : sProp 𝕄) = bigSep Finset.univ fun w : Fin 32 => outLoc d ↦[outPart w]{fullShare} f := by
  rw [← pointsTo_biUnion Finset.univ (ℓ := outLoc d) outPart fun _ _ _ _ h => Rect.part_disjoint out_cut h]
  rw [show Finset.univ.biUnion outPart = Finset.univ from Rect.biUnion_part out_cut]

section Tile

variable (i : grid0.Coords)

/-- The number of the tile's blocks. -/
def blockOf : Fin 32 := ⟨2 * (i 1).val + (i 0).val, by
  have h1 : (i 1).val < 16 := (i 1).isLt
  have h0 : (i 0).val < 2 := (i 0).isLt
  omega⟩

/-- The features, as a tile addresses them. -/
abbrev featsMem : Memref sig .scVector .hbm S100000x128 .f32 := Memref.whole main_arg0_scv
/-- The index array, as a tile addresses it. -/
abbrev listsMem : Memref sig .scVector .hbm S32x128x64 .i32 := Memref.whole main_v1_scv
/-- The result, as a tile addresses it. -/
abbrev outMem : Memref sig .scVector .hbm S4096x128 .f32 := Memref.whole main_v2_scv

/-- The tile's block of the index array is the one its number names. -/
theorem indexBlock_set : (indexBlock i listsMem).view.set = listsPart (blockOf i) := by
  have e : Rect.unit (s := S32x128x64) (k0_off1 i) S1x128x64.size (k0_off1_inb i) = Rect.part (a₀ := 0) lists_cut (blockOf i) := by
    unfold Rect.part Rect.block
    congr 1 <;> funext a
    · rw [k0_off1_eq]
      match a with
      | 0 => simp [Shape.partIx, Shape.partSize, blockOf]
      | 1 => simp [Shape.partIx, Shape.partSize]
      | 2 => simp [Shape.partIx, Shape.partSize]
    · match a with
      | 0 => simp [Shape.partSize]
      | 1 => simp [Shape.partSize]
      | 2 => simp [Shape.partSize]
  show ((listsMem.view.slice (Rect.unit (s := S32x128x64) (k0_off1 i) S1x128x64.size (k0_off1_inb i))).reshape S128x64 squeezes_S1x128x64_S128x64.numel_eq).set = _
  rw [View.set_reshape, View.set_slice]
  exact Finset.map_refl.trans (congrArg (fun R : Rect S32x128x64 => R.set) e)

/-- The tile's block of the result is the one its number names. -/
theorem resultBlock_set : (resultBlock i outMem).view.set = outPart (blockOf i) := by
  have e : Rect.unit (s := S4096x128) (k0_off83 i) S128x128.size (k0_off83_inb i) = Rect.part (a₀ := 0) out_cut (blockOf i) := by
    unfold Rect.part Rect.block
    congr 1 <;> funext a
    · rw [k0_off83_eq]
      match a with
      | 0 =>
        show 256 * (i 1).val + 128 * (i 0).val = (2 * (i 1).val + (i 0).val) * (4096 / 32)
        omega
      | 1 => simp [Shape.partIx, Shape.partSize]
    · match a with
      | 0 => simp [Shape.partSize]
      | 1 => simp [Shape.partSize]
  show (outMem.view.slice (Rect.unit (s := S4096x128) (k0_off83 i) S128x128.size (k0_off83_inb i))).set = _
  rw [View.set_slice, e]
  exact Finset.map_refl

/-- A gather addresses every element of the features. -/
theorem table_set : (table featsMem).view.set = Finset.univ := by
  show (featsMem.view.slice (Rect.unit (s := S100000x128) ![0, 0] S100000x128.size _)).set = _
  rw [View.set_slice]
  refine Eq.trans Finset.map_refl (Finset.eq_univ_of_forall fun x => Rect.mem_set_unit.mpr fun a => ?_)
  match a with
  | 0 => exact ⟨Nat.zero_le _, by have := (x 0).isLt; show (x 0).val < 0 + S100000x128.size 0; omega⟩
  | 1 => exact ⟨Nat.zero_le _, by have := (x 1).isLt; show (x 1).val < 0 + S100000x128.size 1; omega⟩

/-- A gather reads the features as they are. -/
theorem table_read (f : S100000x128.Idx → F .f32) : (table featsMem).view.read (Elt F) f = f := by
  funext x
  refine congrArg f (funext fun a => Fin.ext ?_)
  match a with
  | 0 => show 0 + 1 * (x 0).val = (x 0).val; omega
  | 1 => show 0 + 1 * (x 1).val = (x 1).val; omega

/-- What the tile reads of the index array: the rows from `128 * w` on. -/
theorem indexBlock_read (a : S4096x64.Idx → BitVec 32) (x : S128x64.Idx) :
    (indexBlock i listsMem).view.read (Elt F) (listsOf a) x = a (nodeCell (128 * (blockOf i).val + (x 0).val) (x 1).val) := by
  have h0 : (x 0).val < 128 := (x 0).isLt
  have h1 : (x 1).val < 64 := (x 1).isLt
  have e : Shape.reshapeEquiv squeezes_S1x128x64_S128x64.numel_eq x
      = (fun | 0 => ⟨0, Nat.one_pos⟩ | 1 => ⟨(x 0).val, h0⟩ | 2 => ⟨(x 1).val, h1⟩ : S1x128x64.Idx) := by
    apply Shape.reshapeEquiv_eq_of_rowMajor
    rw [Shape.rowMajor_val_three, Shape.rowMajor_val_two]
    show (0 * 128 + (x 0).val) * 64 + (x 1).val = (x 0).val * 64 + (x 1).val
    omega
  show listsOf a ((Rect.unit (s := S32x128x64) (k0_off1 i) S1x128x64.size (k0_off1_inb i)).emb (Shape.reshapeEquiv squeezes_S1x128x64_S128x64.numel_eq x)) = _
  rw [e, listsOf_apply]
  have k := k0_off1_eq i
  have e0 : k0_off1 i 0 = (blockOf i).val := by rw [k]; rfl
  have e1 : k0_off1 i 1 = 0 := by rw [k]; rfl
  have e2 : k0_off1 i 2 = 0 := by rw [k]; rfl
  refine congrArg a (congr (congrArg nodeCell ?_) ?_)
  · show 128 * (k0_off1 i 0 + 1 * 0) + (k0_off1 i 1 + 1 * (x 0).val) = _
    omega
  · show k0_off1 i 2 + 1 * (x 1).val = _
    omega

/-- Where an element of the tile's block of the result lies in the result. -/
theorem resultBlock_emb (y : S128x128.Idx) :
    (((resultBlock i outMem).view.emb y : S4096x128.Idx) 0).val = 128 * (blockOf i).val + (y 0).val
      ∧ (((resultBlock i outMem).view.emb y : S4096x128.Idx) 1).val = (y 1).val := by
  have k := k0_off83_eq i
  have e0 : k0_off83 i 0 = 128 * (blockOf i).val := by
    rw [k]; show 256 * (i 1).val + 128 * (i 0).val = 128 * (2 * (i 1).val + (i 0).val); omega
  have e1 : k0_off83 i 1 = 0 := by rw [k]; rfl
  constructor
  · show k0_off83 i 0 + 1 * (y 0).val = _; omega
  · show k0_off83 i 1 + 1 * (y 1).val = _; omega

/-- The means that the tile leaves in its block are the result's. -/
theorem means_block (tb : S100000x128.Idx → F .f32) (a : S4096x64.Idx → BitVec 32) (y : S128x128.Idx) :
    meanBlock tb ((indexBlock i listsMem).view.read (Elt F) (listsOf a)) y = means tb a ((resultBlock i outMem).view.emb y) := by
  obtain ⟨e0, e1⟩ := resultBlock_emb i y
  unfold meanBlock means
  rw [e0, e1]
  have hy : (y 0).val < 128 := (y 0).isLt
  refine congrArg (fun G => meanAt G (y 1).val) (funext fun z => ?_)
  have hz : (z 0).val < 64 := (z 0).isLt
  unfold gathered
  rw [indexBlock_read]
  refine congrArg (fun n => tb (tableCell (a n).toNat (z 1).val)) ?_
  show nodeCell (128 * (blockOf i).val + (y 0).val % 128) ((z 0).val % 64) = _
  rw [Nat.mod_eq_of_lt hy, Nat.mod_eq_of_lt hz]

/-- Contents that read as the tile's means agree with the result on the tile's block. -/
theorem block_agrees (tb : S100000x128.Idx → F .f32) (a : S4096x64.Idx → BitVec 32) (f : S4096x128.Idx → F .f32)
    (h : (resultBlock i outMem).view.read (Elt F) f = meanBlock tb ((indexBlock i listsMem).view.read (Elt F) (listsOf a))) :
    ∀ x ∈ (resultBlock i outMem).view.set, f x = means tb a x := by
  intro x hx
  obtain ⟨y, -, rfl⟩ := Finset.mem_map.mp hx
  exact (congrFun h y).trans (means_block i tb a y)

end Tile

end Cert.KernelIdeal.Own
-- ==== Proof.Deal.lean ====
/-
  What the launch deals a tile: its ten scratch buffers and its ten semaphores, taken out of all that the tile owns and
  put back.
-/
module

public import proofs.«01_k».proof.Proof.Blocks

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.SparseCore.Cfg (ownBufs ownSems0 ownCells ownRefs mem_ownCells)

/-- A family inside a set, taken out of it. -/
theorem bigSep_take {J I : Type} [Fintype J] [DecidableEq I] (e : J ↪ I) (S : Finset I) (h : ∀ j, e j ∈ S) (Φ : I → sProp 𝕄) :
    bigSep S Φ = iprop((bigSep Finset.univ fun j => Φ (e j)) ∗ bigSep (S \ Finset.univ.map e) Φ) := by
  have hs : Finset.univ.map e ⊆ S := fun x hx => by
    obtain ⟨j, -, rfl⟩ := Finset.mem_map.mp hx
    exact h j
  rw [bigSep_sdiff_split hs, bigSep_map]
  rfl

/-- A family of ten, one after the other. -/
theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- A tile's scratch buffers. -/
def bufs : Fin 10 → Ref sig .scVector :=
  ![cc0_scratch0, cc0_scratch1, cc0_scratch2, cc0_scratch3, cc0_scratch4, cc0_scratch5, cc0_scratch6, cc0_scratch7, cc0_scratch8, cc0_scratch9]

/-- A tile's semaphores. -/
def sems : Fin 10 → DmaSems sig S_ :=
  ![cc0_scratch10, cc0_scratch11, cc0_scratch12, cc0_scratch13, cc0_scratch14, cc0_scratch15, cc0_scratch16, cc0_scratch17, cc0_scoped0, cc0_scoped1]

/-- The scratch buffers are distinct. -/
theorem bufs_injective : Function.Injective bufs := by decide
/-- The semaphores are distinct. -/
theorem sems_injective : Function.Injective fun k => (sems k).sem := by decide

section Own

variable (d : Dev nD) (c : Fin τ.nSC) (j : Fin τ.nSub)

/-- The scratch buffers among all buffers. -/
def bufAt : Fin 10 ↪ DevRef τ sig := ⟨fun k => (Proc.scVector c j).devRef (bufs k), fun _ _ h => bufs_injective (Proc.devRef_injective _ h)⟩
/-- The semaphores among all cells. -/
def semAt : Fin 10 ↪ GSem nD τ sig :=
  ⟨fun k => (V d c j, SemLoc.dma (sems k).sem), fun _ _ h => sems_injective (SemLoc.dma.inj (Prod.mk.inj h).2)⟩

/-- The tile's other buffers. -/
def restBufs : sProp 𝕄 :=
  bigSep (ownRefs (τ := τ) (.scVector c j) \ Finset.univ.map (bufAt c j)) fun b => iprop(∃ f, ((d, b) : Loc nD τ sig) ↦{fullShare} f)
/-- The tile's other semaphores. -/
def restSems : sProp 𝕄 := bigSep (ownCells (V d c j) \ Finset.univ.map (semAt d c j)) fun g => semVal g 0

/-- A whole buffer at some contents. -/
abbrev wholeBuf (k : Fin 10) : sProp 𝕄 := iprop(∃ f, (V d c j).loc (bufs k) ↦{fullShare} f)

/-- The tile's buffers are its scratch buffers and the others. -/
theorem ownBufs_deal :
    (ownBufs (V d c j) : sProp 𝕄) = iprop((wholeBuf (F := F) d c j 0 ∗ wholeBuf (F := F) d c j 1 ∗ wholeBuf (F := F) d c j 2 ∗ wholeBuf (F := F) d c j 3
      ∗ wholeBuf (F := F) d c j 4 ∗ wholeBuf (F := F) d c j 5 ∗ wholeBuf (F := F) d c j 6 ∗ wholeBuf (F := F) d c j 7 ∗ wholeBuf (F := F) d c j 8
      ∗ wholeBuf (F := F) d c j 9) ∗ restBufs (F := F) d c j) := by
  have h : ∀ k, bufAt c j k ∈ ownRefs (τ := τ) (sig := sig) (.scVector c j) := fun k =>
    SparseCore.Cfg.mem_ownRefs_of_owner (p := Proc.scVector c j) (b := (Proc.scVector c j).devRef (bufs k)) (by fin_cases k <;> rfl)
  unfold SparseCore.Cfg.ownBufs
  exact (bigSep_take (bufAt c j) (ownRefs (τ := τ) (.scVector c j)) h (fun b => iprop(∃ f, ((d, b) : Loc nD τ sig) ↦{fullShare} f))).trans
    (congrArg (fun X => iprop(X ∗ restBufs (F := F) d c j)) (bigSep_ten fun k => wholeBuf (F := F) d c j k))

/-- One of the tile's semaphores at zero. -/
abbrev zeroSem (k : Fin 10) : sProp 𝕄 := semVal (V d c j, SemLoc.dma (sems k).sem) 0

/-- The tile's semaphores are the ten and the others. -/
theorem ownSems_deal :
    (ownSems0 (V d c j) : sProp 𝕄) = iprop((zeroSem (F := F) d c j 0 ∗ zeroSem (F := F) d c j 1 ∗ zeroSem (F := F) d c j 2 ∗ zeroSem (F := F) d c j 3
      ∗ zeroSem (F := F) d c j 4 ∗ zeroSem (F := F) d c j 5 ∗ zeroSem (F := F) d c j 6 ∗ zeroSem (F := F) d c j 7 ∗ zeroSem (F := F) d c j 8
      ∗ zeroSem (F := F) d c j 9) ∗ restSems (F := F) d c j) := by
  have hs : ∀ k, (SemLoc.dma (sems k).sem : SemLoc sig).isScoped .scVector = true := by decide
  have h : ∀ k, semAt d c j k ∈ ownCells (V d c j) := fun k =>
    (mem_ownCells (g := (V d c j, SemLoc.dma (sems k).sem))).mpr ⟨rfl, hs k⟩
  unfold SparseCore.Cfg.ownSems0
  exact (bigSep_take (semAt d c j) (ownCells (V d c j)) h (fun g => semVal g 0)).trans
    (congrArg (fun X => iprop(X ∗ restSems (F := F) d c j)) (bigSep_ten fun k => zeroSem (F := F) d c j k))

end Own

variable (d : Dev nD) (i : grid0.Coords)

/-- The buffers of the tile's row slots. -/
abbrev slotBufs : Fin 8 → Memref sig .scVector .vmem S64x128 .f32 :=
  ![Memref.whole cc0_scratch1, Memref.whole cc0_scratch2, Memref.whole cc0_scratch3, Memref.whole cc0_scratch4, Memref.whole cc0_scratch5,
    Memref.whole cc0_scratch6, Memref.whole cc0_scratch7, Memref.whole cc0_scratch8]
/-- The semaphores of the tile's row slots. -/
abbrev slotSems : Fin 8 → DmaSems sig S_ :=
  ![cc0_scratch10, cc0_scratch11, cc0_scratch12, cc0_scratch13, cc0_scratch14, cc0_scratch15, cc0_scratch16, cc0_scratch17]
/-- What a tile works in. -/
abbrev tileScratch : sProp 𝕄 :=
  scratch (F := F) d i (Memref.whole cc0_scratch0) slotBufs slotSems (Memref.whole cc0_scratch9) cc0_scoped0 cc0_scoped1

/-- A buffer held whole is held as its whole memref. -/
theorem some_whole (b : Ref sig .scVector) :
    some' (F := F) d i (Memref.whole b) = iprop(∃ f, (V d (coreOf i) (subOf i)).loc b ↦{fullShare} f) := by
  unfold some' pts
  rw [View.set_whole]

set_option maxRecDepth 16384 in
/-- What a tile owns is what it works in and the rest. -/
theorem own_scratch :
    (iprop(ownBufs (V d (coreOf i) (subOf i)) ∗ ownSems0 (V d (coreOf i) (subOf i))) : sProp 𝕄)
      ⊣⊢ iprop(tileScratch (F := F) d i ∗ restBufs (F := F) d (coreOf i) (subOf i) ∗ restSems (F := F) d (coreOf i) (subOf i)) := by
  have e : tileScratch (F := F) d i
      = iprop(wholeBuf (F := F) d (coreOf i) (subOf i) 0 ∗ wholeBuf (F := F) d (coreOf i) (subOf i) 1 ∗ wholeBuf (F := F) d (coreOf i) (subOf i) 2
        ∗ wholeBuf (F := F) d (coreOf i) (subOf i) 3 ∗ wholeBuf (F := F) d (coreOf i) (subOf i) 4 ∗ wholeBuf (F := F) d (coreOf i) (subOf i) 5
        ∗ wholeBuf (F := F) d (coreOf i) (subOf i) 6 ∗ wholeBuf (F := F) d (coreOf i) (subOf i) 7 ∗ wholeBuf (F := F) d (coreOf i) (subOf i) 8
        ∗ wholeBuf (F := F) d (coreOf i) (subOf i) 9 ∗ zeroSem (F := F) d (coreOf i) (subOf i) 0 ∗ zeroSem (F := F) d (coreOf i) (subOf i) 1
        ∗ zeroSem (F := F) d (coreOf i) (subOf i) 2 ∗ zeroSem (F := F) d (coreOf i) (subOf i) 3 ∗ zeroSem (F := F) d (coreOf i) (subOf i) 4
        ∗ zeroSem (F := F) d (coreOf i) (subOf i) 5 ∗ zeroSem (F := F) d (coreOf i) (subOf i) 6 ∗ zeroSem (F := F) d (coreOf i) (subOf i) 7
        ∗ zeroSem (F := F) d (coreOf i) (subOf i) 8 ∗ zeroSem (F := F) d (coreOf i) (subOf i) 9) :=
    congr (congrArg (fun X Y => iprop(X ∗ Y)) (some_whole d i cc0_scratch0)) <|
    congr (congrArg (fun X Y => iprop(X ∗ Y)) (some_whole d i cc0_scratch1)) <|
    congr (congrArg (fun X Y => iprop(X ∗ Y)) (some_whole d i cc0_scratch2)) <|
    congr (congrArg (fun X Y => iprop(X ∗ Y)) (some_whole d i cc0_scratch3)) <|
    congr (congrArg (fun X Y => iprop(X ∗ Y)) (some_whole d i cc0_scratch4)) <|
    congr (congrArg (fun X Y => iprop(X ∗ Y)) (some_whole d i cc0_scratch5)) <|
    congr (congrArg (fun X Y => iprop(X ∗ Y)) (some_whole d i cc0_scratch6)) <|
    congr (congrArg (fun X Y => iprop(X ∗ Y)) (some_whole d i cc0_scratch7)) <|
    congr (congrArg (fun X Y => iprop(X ∗ Y)) (some_whole d i cc0_scratch8)) <|
    congr (congrArg (fun X Y => iprop(X ∗ Y)) (some_whole d i cc0_scratch9)) rfl
  rw [e, ownBufs_deal, ownSems_deal]
  constructor
  · iintro ⟨⟨⟨H0, H1, H2, H3, H4, H5, H6, H7, H8, H9⟩, HR⟩, ⟨HS, HT⟩⟩
    iframe
  · iintro ⟨⟨H0, H1, H2, H3, H4, H5, H6, H7, H8, H9, HS⟩, HR, HT⟩
    iframe

end Cert.KernelIdeal.Own
-- ==== Proof.Launch.lean ====
/-
  The launch: what the handshakes carry to a tile and back, the run of each tile's task, the run of the program on the
  TensorCore, and the run of the whole program with the result's value.
-/
module

public import proofs.«01_k».proof.Proof.Deal

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

open Idealize.ShloMosaic.StableHlo (held wp_hlo_within)

/-- The node numbers at the launch. -/
abbrev nodes (d : Dev nD) : S4096x64.Idx → BitVec 32 := m (nodesLoc d)
/-- The features at the launch. -/
abbrev feats (d : Dev nD) : S100000x128.Idx → F .f32 := m (featsLoc d)

/-- A tile's share of the features and its block of the node numbers. -/
abbrev inputs (d : Dev nD) (w : Fin 32) : sProp 𝕄 :=
  iprop((featsLoc d ↦{featsPart w} m (featsLoc d)) ∗ listsLoc d ↦[listsPart w]{fullShare} (listsOf (nodes m d) : Buf (Elt F) (listsLoc d)))
/-- What a tile is handed: its inputs, and its block of the result as it was. -/
abbrev handed (d : Dev nD) (w : Fin 32) : sProp 𝕄 := iprop(inputs m d w ∗ outLoc d ↦[outPart w]{fullShare} m (outLoc d))
/-- What a tile hands back: its inputs, and its block of the result at the means. -/
abbrev returned (d : Dev nD) (w : Fin 32) : sProp 𝕄 :=
  iprop(inputs m d w ∗ outLoc d ↦[outPart w]{fullShare} (means (feats m d) (nodes m d) : Buf (Elt F) (outLoc d)))

/-- The two SparseCores. -/
theorem nCore_zero : (K (F := F)).nCore 0 = 2 := rfl
/-- The sixteen vector subcores. -/
theorem nSub_zero : (K (F := F)).nSub 0 = 16 := rfl

/-- The number of the blocks of subcore `i` of SparseCore `c`. -/
abbrev tileNo (c : Fin 2) (i : Fin 16) : Fin 32 := finProdFinEquiv (i, c)

/-- What the handshakes carry. -/
def P : (K (F := F)).Pay (nD := nD) (Val := Elt F) (Name := ℕ) (U := UU) where
  st := fun q d c => match q with | 0 => bigSep Finset.univ fun i : Fin 16 => handed m d (tileNo (Fin.cast nCore_zero c) i)
  dn := fun q d c => match q with | 0 => bigSep Finset.univ fun i : Fin 16 => returned m d (tileNo (Fin.cast nCore_zero c) i)
  go := fun q d c i => match q with | 0 => handed m d (tileNo (Fin.cast nCore_zero c) (Fin.cast nSub_zero i))
  td := fun q d c i => match q with | 0 => returned m d (tileNo (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => handed m d (tileNo (Fin.cast nCore_zero c) i)))
  dn q d c := match q with
    | 0 => (inferInstance : BI.Storable (upEmb : UEmb _ 𝕄) (bigSep Finset.univ fun i : Fin 16 => returned m d (tileNo (Fin.cast nCore_zero c) i)))
  go q d c i := match q with
    | 0 => (inferInstance : BI.Storable (upEmb : UEmb _ 𝕄) (handed m d (tileNo (Fin.cast nCore_zero c) (Fin.cast nSub_zero i))))
  td q d c i := match q with
    | 0 => (inferInstance : BI.Storable (upEmb : UEmb _ 𝕄) (returned m d (tileNo (Fin.cast nCore_zero c) (Fin.cast nSub_zero i))))

/-- What the proof asks of the launch memory: every node number is below the number of nodes. -/
def PreOK : Prop := ∀ (d : Dev nD) (x : S4096x64.Idx), (nodes m d x).toNat < 100000

/-! ## The task -/

section Task

variable (d : Dev nD) (i : grid0.Coords)

set_option maxRecDepth 16384 in
/-- The task of a tile: from what it is handed to what it hands back. -/
theorem wp_task (hF : (K (F := F)).Facts) (hpre : PreOK m) (O : CellTallies nD τ sig (HIx 1)) (W : Waits sig (HIx 1)) (hO : ∀ g, O g none = 0) :
    iprop(levAts (K (F := F)).L (K (F := F)).lev ∗ emp ∗ handed m d (blockOf i)
        ∗ scopedBufs (V d (coreOf i) (subOf i)) ∗ scopedSems0 (V d (coreOf i) (subOf i)) ∗ owes (V d (coreOf i) (subOf i)) O W)
      ⊢ wpT d (coreOf i) (subOf i)
          (cc0_body (F := F) i featsMem (Memref.isWhole_whole _) listsMem (Memref.isWhole_whole _) outMem (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            cc0_scratch10 cc0_scratch11 cc0_scratch12 cc0_scratch13 cc0_scratch14 cc0_scratch15 cc0_scratch16 cc0_scratch17 cc0_scoped0 cc0_scoped1)
          fun _ => iprop(returned m d (blockOf i) ∗ scopedBufs (V d (coreOf i) (subOf i)) ∗ scopedSems0 (V d (coreOf i) (subOf i))
            ∗ ∃ W', ⌜∀ p ∈ W', p ∈ W ∨ p.2 = none⌝ ∗ owes (V d (coreOf i) (subOf i)) O W') := by
  rw [body_eq, (K (F := F)).scopedBufs_V hF d (coreOf i) (subOf i), SparseCore.Cfg.scopedSems0_V (Val := Elt F) d (coreOf i) (subOf i)]
  have eT (q : PosShare TreeShare) : (featsLoc d ↦{q} m (featsLoc d) : sProp 𝕄) = tableShare d (coreOf i) (subOf i) featsMem (m (featsLoc d)) q := by
    unfold tableShare; rw [table_set]
  have eA : (listsLoc d ↦[listsPart (blockOf i)]{fullShare} (listsOf (nodes m d) : Buf (Elt F) (listsLoc d)) : sProp 𝕄)
      = pts d (coreOf i) (subOf i) (indexBlock i listsMem) (listsOf (nodes m d)) := by
    unfold pts; rw [indexBlock_set]
  have eC (f : Buf (Elt F) (outLoc d)) : (outLoc d ↦[outPart (blockOf i)]{fullShare} f : sProp 𝕄)
      = pts d (coreOf i) (subOf i) (resultBlock i outMem) f := by
    unfold pts; rw [resultBlock_set]
  have hin : ∀ x, ((indexBlock i listsMem).view.read (Elt F) (listsOf (nodes m d)) x).toNat < 100000 := fun x => by
    rw [indexBlock_read]; exact hpre d _
  iintro ⟨#Hlv, -, ⟨⟨HT, HA⟩, HC⟩, Hbufs, Hsems, HO⟩
  ihave Hmw := (show levAts (K (F := F)).L (K (F := F)).lev ⊢ Transfers.MayWaits (V d (coreOf i) (subOf i)) (default : HIx 1) O from
    (K (F := F)).mayWaits_none (thr := V d (coreOf i) (subOf i)) hO) $$ Hlv
  ihave Hs := (own_scratch (F := F) d i).1 $$ [Hbufs Hsems]
  · isplitl [Hbufs] <;> iassumption
  icases Hs with ⟨Hs, Hrb, Hrs⟩
  ihave HT := (Entails.of_eq (eT _)) $$ HT
  ihave HA := (Entails.of_eq eA) $$ HA
  ihave HC := (Entails.of_eq (eC _)) $$ HC
  iapply (wp_tileProg d i featsMem listsMem outMem (Memref.whole cc0_scratch0) slotBufs slotSems (Memref.whole cc0_scratch9) cc0_scoped0 cc0_scoped1
    (Memref.isWhole_whole _) _ (Memref.isWhole_whole _) O W (featsPart (blockOf i)) (m (featsLoc d)) (listsOf (nodes m d)) (m (outLoc d)) hin) $$ [Hmw HT HA HC Hs HO]
  · isplitl [Hmw]; · iexact Hmw
    isplitl [HT]; · iexact HT
    isplitl [HA]; · iexact HA
    isplitl [HC]; · iexact HC
    isplitl [Hs]; · iexact Hs
    unfold owing
    iexists W; isplitr
    · ipureintro; exact fun p hp => .inl hp
    iexact HO
  iintro ⟨HT, HA, ⟨%f, %hf, HC⟩, Hs, HO⟩
  have hb : ∀ x ∈ outPart (blockOf i), f x = (means (feats m d) (nodes m d) : Buf (Elt F) (outLoc d)) x := by
    rw [← resultBlock_set]
    refine block_agrees i (feats m d) (nodes m d) f ?_
    rw [table_read] at hf
    exact hf
  ihave HT := (Entails.of_eq (eT _).symm) $$ HT
  ihave HA := (Entails.of_eq eA.symm) $$ HA
  ihave HC := (Entails.of_eq ((eC f).symm.trans (pointsTo_congr hb))) $$ HC
  ihave Ho := (own_scratch (F := F) d i).2 $$ [Hs Hrb Hrs]
  · isplitl [Hs]; · iexact Hs
    isplitl [Hrb] <;> iassumption
  icases Ho with ⟨Hbufs, Hsems⟩
  isplitl [HT HA HC]
  · isplitl [HT HA]
    · isplitl [HT] <;> iassumption
    iexact HC
  isplitl [Hbufs]; · iexact Hbufs
  isplitl [Hsems]; · iexact Hsems
  iexact HO

end Task

/-- The coordinates of a tile. -/
def coordsOf (c : Fin (grid0.bound 0)) (s : Fin (grid0.bound 1)) : grid0.Coords :=
  fun | 0 => c | 1 => s | ⟨_ + 2, h⟩ => absurd h (Nat.not_lt.2 (Nat.le_add_left _ _))

/-- The task that the launch runs on a vector subcore. -/
theorem defs₀_vector (c : Fin τ.nSC) (s : Fin τ.nSub) :
    defs₀ (F := F) (.scVector c s) 0 ()
      = SparseCore.onTile hcore0 hsub0 (fun c s => cc0_body (coordsOf c s) featsMem (Memref.isWhole_whole _) listsMem (Memref.isWhole_whole _) outMem (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            cc0_scratch10 cc0_scratch11 cc0_scratch12 cc0_scratch13 cc0_scratch14 cc0_scratch15 cc0_scratch16 cc0_scratch17 cc0_scoped0 cc0_scoped1) ⟨⟩ c s := rfl

/-- The number of a tile's blocks from its coordinates. -/
theorem blockOf_coordsOf (c : Fin 2) (s : Fin 16) : blockOf (coordsOf c s) = tileNo c s :=
  Fin.ext (show 2 * s.val + c.val = c.val + 2 * s.val by omega)

/-- The waits that a task records are those that the launch allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch's obligation on its tasks. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := wp_task m d (coordsOf ⟨_, hci.1⟩ ⟨_, hci.2⟩) hF hpre O W hO
  rw [show blockOf (coordsOf ⟨_, hci.1⟩ ⟨_, hci.2⟩) = tileNo (Fin.cast nCore_zero c) (Fin.cast nSub_zero i) from blockOf_coordsOf _ _] at h
  exact h.trans (wp_mono frame _ _ fun _ => waits_weaken)

/-- A family over a SparseCore's tiles. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What the launch hands a SparseCore is what it hands its tiles. -/
theorem vecSplit : (K (F := F)).VecSplit' (P m) 0 := by
  intro d c
  show (bigSep Finset.univ fun i : Fin 16 => handed m d (tileNo (Fin.cast nCore_zero c) i)) ⊢ |={Set.univ}=> iprop(
      (bigSep Finset.univ fun i : Fin ((K (F := F)).nSub 0) => handed m d (tileNo (Fin.cast nCore_zero c) (Fin.cast nSub_zero i)))
      ∗ ((bigSep Finset.univ fun i : Fin ((K (F := F)).nSub 0) => returned m d (tileNo (Fin.cast nCore_zero c) (Fin.cast nSub_zero i)))
          -∗ bigSep Finset.univ fun i : Fin 16 => returned m d (tileNo (Fin.cast nCore_zero c) i)))
  rw [bigSep_tiles (F := F) (fun i => handed m d (tileNo (Fin.cast nCore_zero c) i)),
    bigSep_tiles (F := F) (fun i => returned m d (tileNo (Fin.cast nCore_zero c) i))]
  iintro H; imodintro
  isplitl [H]; · iexact H
  iintro H; iexact H

/-- A family over all tiles, SparseCore by SparseCore, is one over the blocks. -/
theorem bigSep_blocks (Φ : Fin 32 → sProp 𝕄) :
    (bigSep Finset.univ fun c : Fin ((K (F := F)).nCore 0) => bigSep Finset.univ fun i : Fin 16 => Φ (tileNo (Fin.cast nCore_zero c) i)) = bigSep Finset.univ Φ := by
  show (bigSep Finset.univ fun c : Fin 2 => bigSep Finset.univ fun i : Fin 16 => Φ (tileNo c i)) = _
  rw [bigSep_univ_comm]
  exact (bigSep_univ_prod fun x : Fin 16 × Fin 2 => Φ (finProdFinEquiv x)).symm.trans (bigSep_univ_equiv (finProdFinEquiv : Fin 16 × Fin 2 ≃ Fin 32) Φ).symm

/-- The arrays whole, the result at contents `f`. -/
abbrev arrays (d : Dev nD) (f : Buf (Elt F) (outLoc d)) : sProp 𝕄 :=
  iprop((featsLoc d ↦{fullShare} m (featsLoc d)) ∗ (listsLoc d ↦{fullShare} (listsOf (nodes m d) : Buf (Elt F) (listsLoc d))) ∗ outLoc d ↦{fullShare} f)

/-- Three assertions, grouped from the left or from the right. -/
theorem sep_regroup (X Y Z : sProp 𝕄) : iprop((X ∗ Y) ∗ Z) = iprop(X ∗ Y ∗ Z) := by
  have h : iprop((X ∗ Y) ∗ Z) ⊢ iprop(X ∗ Y ∗ Z) := by iintro ⟨⟨HX, HY⟩, HZ⟩; iframe
  have h' : iprop(X ∗ Y ∗ Z) ⊢ iprop((X ∗ Y) ∗ Z) := by iintro ⟨HX, HY, HZ⟩; iframe
  exact BI.Entails.antisymm h h'

/-- The arrays whole are the tiles' parts of them. -/
theorem arrays_parts (d : Dev nD) (f : Buf (Elt F) (outLoc d)) :
    (bigSep Finset.univ fun w : Fin 32 => iprop(inputs m d w ∗ outLoc d ↦[outPart w]{fullShare} f)) = (arrays m d f : sProp 𝕄) := by
  unfold arrays
  rw [feats_parts, lists_parts, out_parts, bigSep_sep', bigSep_sep']
  exact sep_regroup _ _ _

/-- What the call takes. -/
theorem taken_eq (d : Dev nD) : (bigSep Finset.univ fun c : Fin ((K (F := F)).nCore 0) => (P m).st 0 d c) = arrays m d (m (outLoc d)) :=
  (bigSep_blocks fun w => handed m d w).trans (arrays_parts m d _)
/-- What the call hands back. -/
theorem back_eq (d : Dev nD) : (bigSep Finset.univ fun c : Fin ((K (F := F)).nCore 0) => (P m).dn 0 d c) = arrays m d (means (feats m d) (nodes m d)) :=
  (bigSep_blocks fun w => returned m d w).trans (arrays_parts m d _)

/-! ## The program on the TensorCore -/

/-- The features among the device's buffers. -/
abbrev featsRef : DevRef τ sig := Proc.devRef .tc (main_arg0 : Ref sig .tc)
/-- The node numbers among the device's buffers. -/
abbrev nodesRef : DevRef τ sig := Proc.devRef .tc (main_arg1 : Ref sig .tc)
/-- The node numbers in one row among the device's buffers. -/
abbrev flatRef : DevRef τ sig := Proc.devRef .tc (main_v0 : Ref sig .tc)
/-- The index array among the device's buffers. -/
abbrev listsRef : DevRef τ sig := Proc.devRef .tc (main_v1 : Ref sig .tc)
/-- The result among the device's buffers. -/
abbrev outRef : DevRef τ sig := Proc.devRef .tc (main_v2 : Ref sig .tc)

/-- The first host operation: the node numbers in one row. -/
abbrev toFlat : HloOp τ sig (Elt F) := StableHlo.reshape main_arg1 main_v0 (rfl : (.i32 : EltTy) = .i32) shapeCasts_S4096x64_S262144
/-- The second host operation: the node numbers in blocks. -/
abbrev toLists : HloOp τ sig (Elt F) := StableHlo.reshape main_v0 main_v1 (rfl : (.i32 : EltTy) = .i32) shapeCasts_S262144_S32x128x64

/-- The program's arrays. -/
abbrev allRefs : Finset (DevRef τ sig) := {featsRef, nodesRef, flatRef, listsRef, outRef}

/-- The arrays held whole at a valuation, one after the other. -/
theorem held_all (d : Dev nD) (W : Valuation τ sig (Elt F)) :
    (held (T d) allRefs W : sProp 𝕄) = iprop((featsLoc d ↦{fullShare} W featsRef) ∗ (nodesLoc d ↦{fullShare} W nodesRef)
      ∗ ((SparseCore.T d).loc main_v0 ↦{fullShare} W flatRef) ∗ (listsLoc d ↦{fullShare} W listsRef) ∗ outLoc d ↦{fullShare} W outRef) := by
  unfold held allRefs
  rw [SparseCore.bigSep_insert' (by decide), SparseCore.bigSep_insert' (by decide), SparseCore.bigSep_insert' (by decide),
    SparseCore.bigSep_insert' (by decide), bigSep_singleton]

/-- The contents at the launch. -/
def atLaunch (d : Dev nD) : Valuation τ sig (Elt F) := fun b => m (d, b)

/-- What the launch hands the TensorCore are the arrays at their contents. -/
theorem unscoped_held (d : Dev nD) : (unscopedBufs d (fun b => m ((SparseCore.T d).loc b)) : sProp 𝕄) = held (T d) allRefs (atLaunch m d) := by
  rw [held_all]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-- The contents at the call. -/
abbrev atCall (d : Dev nD) : Valuation τ sig (Elt F) := (toLists (F := F)).result ((toFlat (F := F)).result (atLaunch m d))

/-- The host operations leave every other array alone. -/
theorem atCall_other (d : Dev nD) (b : DevRef τ sig) (h : b ∉ ({listsRef} : Finset (DevRef τ sig))) (h' : b ∉ ({flatRef} : Finset (DevRef τ sig))) :
    atCall m d b = m (d, b) :=
  ((toLists (F := F)).result_of_not_mem _ h).trans ((toFlat (F := F)).result_of_not_mem _ h')

/-- The host operations leave the node numbers in blocks. -/
theorem atCall_lists (d : Dev nD) : atCall m d listsRef = (listsOf (nodes m d) : Buf (Elt F) (listsLoc d)) := by
  unfold atCall toLists
  rw [StableHlo.reshape_result']
  unfold toFlat
  rw [StableHlo.reshape_result']
  rfl

/-- The first operation's arrays are the program's. -/
theorem toFlat_bufs : (toFlat (F := F)).bufs ⊆ allRefs := show ({nodesRef, flatRef} : Finset (DevRef τ sig)) ⊆ allRefs by decide
/-- The second operation's arrays are the program's. -/
theorem toLists_bufs : (toLists (F := F)).bufs ⊆ allRefs := show ({flatRef, listsRef} : Finset (DevRef τ sig)) ⊆ allRefs by decide

/-- What the program leaves: the arguments as they were, and the means. -/
abbrev left (d : Dev nD) : sProp 𝕄 :=
  iprop((featsLoc d ↦{fullShare} m (featsLoc d)) ∗ (nodesLoc d ↦{fullShare} m (nodesLoc d))
    ∗ outLoc d ↦{fullShare} (means (feats m d) (nodes m d) : Buf (Elt F) (outLoc d)))

/-- The program on a device's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ left m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := toFlat) (S := allRefs) toFlat_bufs (V := atLaunch m d)) $$ [Hb Hheld]
  · isplitl [Hb] <;> iassumption
  iintro ⟨Hb, Hheld⟩
  rw [wp_ret]; imodintro
  iapply (wp_hlo_within 𝒱 (SparseCore.T d) none Set.univ (op := toLists) (S := allRefs) toLists_bufs) $$ [Hb Hheld]
  · isplitl [Hb] <;> iassumption
  iintro ⟨Hb, Hheld⟩
  rw [wp_ret]; imodintro
  ihave Hh := (Entails.of_eq (held_all (F := F) d (atCall m d))) $$ Hheld
  rw [atCall_lists m d, atCall_other m d featsRef (by decide) (by decide), atCall_other m d nodesRef (by decide) (by decide),
    atCall_other m d outRef (by decide) (by decide)]
  icases Hh with ⟨Hf, Hn, -, Hl, Ho⟩
  iapply ((K (F := F)).wp_run (D (F := F)) 𝒱 (EH := EH) (P := P m) κ d 0) $$ [Hst Hf Hl Ho Hn Hb Hts]
  isplitr; · iexact Hctx
  isplitl [Hst]; · iexact Hst
  isplitl [Hf Hl Ho]
  · rw [taken_eq]
    isplitl [Hf]; · iexact Hf
    isplitl [Hl]; · iexact Hl
    iexact Ho
  iintro ⟨Hst, Hdn⟩
  ihave Hdn' := (Entails.of_eq (back_eq m d)) $$ Hdn
  icases Hdn' with ⟨Hf, -, Ho⟩
  imodintro
  isplitl [Hst]; · iexact Hst
  isplitr [Hb Hts]
  · isplitl [Hf]; · iexact Hf
    isplitl [Hn]; · iexact Hn
    iexact Ho
  isplitl [Hb] <;> iassumption

/-! ## The run -/

/-- What the memory holds at the end, on a device. -/
def final (d : Dev nD) (s' : Phys nD τ sig (Elt F)) : Prop :=
  s'.mem.mem (featsLoc d) = m (featsLoc d) ∧ s'.mem.mem (nodesLoc d) = m (nodesLoc d)
    ∧ s'.mem.mem (outLoc d) = (means (feats m d) (nodes m d) : Buf (Elt F) (outLoc d))

/-- An array held whole is in the memory. -/
theorem held_agrees (s' : Phys nD τ sig (Elt F)) (ℓ : Loc nD τ sig) (f : Buf (Elt F) ℓ) (R : sProp 𝕄) :
    iprop(((ℓ ↦{fullShare} f) ∗ R) ∗ SI s') ⊢ (iprop(⌜s'.mem.mem ℓ = f⌝ ∗ R ∗ SI s') : sProp 𝕄) := by
  iintro ⟨⟨Hf, HR⟩, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  isplitl [HR] <;> iassumption

/-- What the program leaves is in the memory. -/
theorem left_final (d : Dev nD) (s' : Phys nD τ sig (Elt F)) : iprop(left m d ∗ SI s') ⊢ (⌜final m d s'⌝ : sProp 𝕄) := by
  iintro H
  ihave H := (held_agrees s' _ _ _) $$ H
  icases H with ⟨%h1, H⟩
  ihave H := (held_agrees s' _ _ _) $$ H
  icases H with ⟨%h2, ⟨Ho, HSI⟩⟩
  ihave H := (held_agrees s' (outLoc d) (means (feats m d) (nodes m d) : Buf (Elt F) (outLoc d)) iprop(emp)) $$ [Ho HSI]
  · isplitr [HSI]
    · isplitl [Ho]; · iexact Ho
      iempintro
    iexact HSI
  icases H with ⟨%h3, -⟩
  ipureintro; exact ⟨h1, h2, h3⟩

/-- The ghost state at the launch. -/
def u₀ : UU := (initOf (K (F := F)).hsCells (K (F := F)).hsToks, 1)

/-- The launch's ghost state is the handshakes'. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  have he : (bigSep Finset.univ fun _ : Dev nD => iprop(emp)) = (iprop(emp) : sProp 𝕄) := bigSep_emp_const _
  rw [hx, he]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-- What the program's run ends in: the arguments as they were, the means, every semaphore at zero. -/
def Ends : PUnit × MemSt nD τ sig (Elt F) → Prop := fun r =>
  (∀ c : Dev nD, r.2.mem (featsLoc c) = m (featsLoc c) ∧ r.2.mem (nodesLoc c) = m (nodesLoc c)
    ∧ r.2.mem (outLoc c) = (means (feats m c) (nodes m c) : Buf (Elt F) (outLoc c))) ∧ r.2.sem = fun _ => 0

/-- The program runs to its end, at any float values. -/
theorem run_main [∀ e, Nonempty (Elt F e)] (hpre : PreOK m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (left m) (u₀ (F := F)) (sep_elim_left.trans (hu₀ m)) (hmain m ρ) (final m) (left_final m) (Ends m) (fun _ h hz => ⟨h, hz⟩)

end Cert.KernelIdeal.Own
-- ==== Proof.Frames.lean ====
/-
  What the precondition says of a node number, and the two frames of the kernel: its text read at the device's floats and
  read at the extended reals.
-/
module

public import proofs.«01_k».proof.Defs
public import proofs.«01_k».proof.Proof.Launch
public import proofs.«01_k».proof.Proof.Gen.Kernel
public import proofs.«01_k».proof.Proof.Gen.Pre_in_range
public import Idealize.ShloMosaic.Lib.ReduceAll

@[expose] public section

noncomputable section

namespace Cert.Proof

open Idealize.ShloMosaic Idealize.SL.Sem
open Cert.KernelIdeal.Own

/-- A word that, read signed, is at least 0 and below 100000 is below 100000 read unsigned too. -/
theorem toNat_lt_of_signed (v : BitVec 32) (h0 : 0 ≤ v.toInt) (h1 : v.toInt < 100000) : v.toNat < 100000 := by
  rw [BitVec.toInt_eq_toNat_cond] at h0 h1
  have := v.isLt
  split at h0 <;> split at h1 <;> omega

/-- Where the predicate `in_range` is all ones, every node number is below the count of the table's rows. -/
theorem lt_of_in_range {F : FTy → Type} [FloatOps F] (tb : FVec F Cert.Pre_in_range.S100000x128 .f32)
    (a : IVec Cert.Pre_in_range.S4096x64 32) (h : Cert.Pre_in_range.fn (F := F) tb a = fun _ => 1#1)
    (x : Cert.Pre_in_range.S4096x64.Idx) : (a x).toNat < 100000 := by
  haveI : Subsingleton Cert.Pre_in_range.S_.Idx := ⟨fun p q => funext fun i => i.elim0⟩
  have e := Host.reduce_andi_all _ _ _ _ (fun i => i.elim0) (congrFun h (fun i => i.elim0)) x
  obtain ⟨e0, e1⟩ := IntOp.andi_eq_one.1 e
  exact toNat_lt_of_signed _ (IntOp.cmpi_sge.1 e0) (IntOp.cmpi_slt.1 e1)

/-- `Cert.quiescent_Kernel` (Defs.lean): the kernel's text at the device's floats runs, leaves its arguments as they were
    and every counter at zero. -/
theorem frame_kernel : Cert.quiescent_Kernel := fun m ρ h =>
  (θ_run Cert.Kernel.defs _ _).mono (fun _ e => ⟨fun c => ⟨(e.1 c).1, (e.1 c).2.1⟩, e.2⟩)
    (run_main (F := Bits) m ρ fun d x => lt_of_in_range _ _ (h d) x)

/-- `Cert.quiescent_KernelIdeal` (Defs.lean): the same of the kernel's text at the extended reals. -/
theorem frame_ideal : Cert.quiescent_KernelIdeal := fun m ρ h =>
  (θ_run Cert.KernelIdeal.defs _ _).mono (fun _ e => ⟨fun c => ⟨(e.1 c).1, (e.1 c).2.1⟩, e.2⟩)
    (run_main (F := Ideal) m ρ fun d x => lt_of_in_range _ _ (h d) x)

end Cert.Proof

end
-- ==== Proof.Reference.lean ====
/-
  The reference: its operations in order, its run, and the term its result is of its two arguments.
-/
module

public import proofs.«01_k».proof.Defs
public import proofs.«01_k».proof.Proof.Gen.ReferenceIdeal
public import proofs.«01_k».proof.Proof.Gen.Pre_in_range
public import Idealize.ShloMosaic.Lib.StableHlo.Run
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-! ## The result's term, stage by stage -/

/-- The row numbers the reference gathers at: a negative one counted from the table's end, with an index axis of length
    one at the end. -/
def rowNums (a : IVec S4096x64 32) : IVec S4096x64x1 32 :=
  broadcastInDim S4096x64x1 ![0, 1] bcast_S4096x64_S4096x64x1_0_1
    (select (cmpi .slt a (broadcastInDim S4096x64 ![] bcast_S_S4096x64 (constantI S_ 32 0#32)))
      (addi a (broadcastInDim S4096x64 ![] bcast_S_S4096x64 (constantI S_ 32 100000#32))) a)

/-- Which row numbers name a row of the table. -/
def known (a : IVec S4096x64 32) : IVec S4096x64 1 :=
  Host.reduce IntOp.andi
    (andi (cmpi .sge (rowNums a) (broadcastInDim S4096x64x1 ![] bcast_S_S4096x64x1 (constantI S_ 32 0#32)))
      (cmpi .sle (rowNums a) (broadcastInDim S4096x64x1 ![0, 1, 2] bcast_S1x1x1_S4096x64x1_0_1_2
        (broadcastInDim S1x1x1 ![2] bcast_S1_S1x1x1_2 (constantI S1 32 99999#32)))))
    (constantI S_ 1 1#1) reducesTo_S4096x64x1_S4096x64_d2 h_S_

/-- The rows gathered, a constant in place of a row whose number names none. -/
def taken (tb : FVec F S100000x128 .f32) (a : IVec S4096x64 32) : FVec F S4096x64x128 .f32 :=
  select (broadcastInDim S4096x64x128 ![0, 1] bcast_S4096x64_S4096x64x128_0_1 (known a))
    (Host.gather gather_S100000x128_S4096x64x1_S4096x64x128_2_0_n_n_0_2_1128 tb (rowNums a))
    (broadcastInDim S4096x64x128 ![] bcast_S_S4096x64x128 (constant S_ .f32 0x7FC00000#32))

/-- The result: the sums of the rows gathered, over 64. -/
def out (tb : FVec F S100000x128 .f32) (a : IVec S4096x64 32) : FVec F S4096x128 .f32 :=
  Host.divf
    (Host.reduceAdd (taken tb a) (constant S_ .f32 0x00000000#32) reducesTo_S4096x64x128_S4096x128_d1 h_S_)
    (broadcastInDim S4096x128 ![] bcast_S_S4096x128 (constant S_ .f32 0x42800000#32))

/-! ## The run -/

/-- The reference's operations in order, its calls unfolded. -/
abbrev ops : List (HloOp τ sig (Elt F)) :=
  [ TRef.nullary main_call0.c (constantI S_ 32 0#32),
    TRef.unary main_call0.c main_call0.v0 (broadcastInDim S4096x64 ![] bcast_S_S4096x64),
    TRef.binary (.of main_arg1) main_call0.v0 main_call0.v1 (cmpi .slt),
    TRef.nullary main_call0.c_0 (constantI S_ 32 100000#32),
    TRef.unary main_call0.c_0 main_call0.v2 (broadcastInDim S4096x64 ![] bcast_S_S4096x64),
    TRef.binary (.of main_arg1) main_call0.v2 main_call0.v3 addi,
    TRef.ternary main_call0.v1 main_call0.v3 (.of main_arg1) main_call0.call0.v0 select,
    TRef.unary main_call0.call0.v0 main_call0.v5 (broadcastInDim S4096x64x1 ![0, 1] bcast_S4096x64_S4096x64x1_0_1),
    TRef.nullary main_call0.c_1 (constantI S1 32 99999#32),
    TRef.nullary main_call0.c_2 (constantI S_ 32 0#32),
    TRef.unary main_call0.c_2 main_call0.v6 (broadcastInDim S4096x64x1 ![] bcast_S_S4096x64x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x64x1 ![0, 1, 2] bcast_S1x1x1_S4096x64x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12
      (fun x v => Host.reduce IntOp.andi x v reducesTo_S4096x64x1_S4096x64_d2 h_S_),
    TRef.binary (.of main_arg0) main_call0.v5 main_call0.v13
      (fun x i => Host.gather gather_S100000x128_S4096x64x1_S4096x64x128_2_0_n_n_0_2_1128 x i),
    TRef.unary main_call0.v12 main_call0.v14 (broadcastInDim S4096x64x128 ![0, 1] bcast_S4096x64_S4096x64x128_0_1),
    TRef.nullary main_call0.cst (constant S_ .f32 0x7FC00000#32),
    TRef.unary main_call0.cst main_call0.v15 (broadcastInDim S4096x64x128 ![] bcast_S_S4096x64x128),
    TRef.ternary main_call0.v14 main_call0.v13 main_call0.v15 main_call0.v16 select,
    nullary main_cst (constant S_ .f32 0x00000000#32),
    binary main_v0 main_cst main_v1
      (fun (x : FVec F S4096x64x128 .f32) (v : FVec F S_ .f32) => Host.reduceAdd x v reducesTo_S4096x64x128_S4096x128_d1 h_S_),
    nullary main_cst_0 (constant S_ .f32 0x42800000#32),
    unary main_cst_0 main_v2 (broadcastInDim S4096x128 ![] bcast_S_S4096x128),
    binary main_v1 main_v2 main_v3 Host.divf ]

/-- The program is its operations in order. -/
theorem main_eq (c : Dev nD) : main (F := F) c = seq ops := by
  simp only [main, fn_take.body, fn_where.body, seq, bind_assoc, pure_bind]

/-- The result buffer ends at `out` of the two arguments. -/
theorem out_eq (V : Valuation τ sig (Elt F)) :
    after ops V (main_v3 : DevRef τ sig) = out (V (main_arg0 : DevRef τ sig)) (V (main_arg1 : DevRef τ sig)) := by
  after_results_simp
  simp -implicitDefEqProofs only [TRef.ofBuf_toBuf, TRef.toBuf, TRef.ofBuf, TRef.of, cast_eq]
  unfold out taken known rowNums
  rfl

/-- No operation writes an argument's buffer, so the two end as they were. -/
theorem args_eq (V : Valuation τ sig (Elt F)) :
    after ops V (main_arg0 : DevRef τ sig) = V (main_arg0 : DevRef τ sig)
      ∧ after ops V (main_arg1 : DevRef τ sig) = V (main_arg1 : DevRef τ sig) := by
  simp only [after_cons, after_nil]
  exact ⟨rfl, rfl⟩

/-- Every operation works on buffers the TensorCore can reach. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., nullary_bufs_sub .., unary_bufs_sub .., binary_bufs_sub ..⟩

/-- The reference runs to the end; its result is `out` of its arguments, which end as they were, and every counter is at
    zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v3)
            = out (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono
    (fun r h => ⟨fun c => ⟨(h c main_v3).trans (out_eq _), (h c main_arg0).trans (args_eq _).1, (h c main_arg1).trans (args_eq _).2⟩,
      sem_eq_zero_of_no_sems (by decide) r.2⟩)
    (run_seq (by decide) (by decide) defs main (fun _ => ops) main_eq (fun _ => ops_sub) m ρ)

/-- `Cert.quiescent_ReferenceIdeal` (Defs.lean): the run, read at the arguments. -/
theorem frame : Cert.quiescent_ReferenceIdeal := fun m ρ _ =>
  (θ_run defs _ _).mono (fun _ h => ⟨fun c => (h.1 c).2, h.2⟩) (run (F := Ideal) m ρ)

/-- `Cert.quiescent_ReferenceIdeal_pre_in_range` (Defs.lean): the same under the precondition, which it does not need. -/
theorem frame_in_range : Cert.quiescent_ReferenceIdeal_pre_in_range := fun m ρ _ => frame m ρ trivial

end Cert.Proof.Ref

end
-- ==== Proof.Mean.lean ====
/-
  The value: where every node number names a row of the table, the reference's term and the kernel's are the same array of
  extended reals, and with that the algebraic claim.
-/
module

public import proofs.«01_k».proof.Proof.Frames
public import proofs.«01_k».proof.Proof.Reference
public import Idealize.ShloMosaic.Lib.IdealHost
public import Idealize.ShloMosaic.Lib.Pipeline.Value
public import Idealize.ShloMosaic.PureOps.Ideal.Laws

@[expose] public section

noncomputable section

namespace Cert.Proof

open Idealize.ShloMosaic Idealize.SL.Sem
open Cert.ReferenceIdeal Cert.ReferenceIdeal.Gen
open Cert.KernelIdeal.Own (means meanAt colSum cell tableCell nodeCell run_main)
open scoped BigOperators

variable {F : FTy → Type} [FloatOps F]

/-! ## The rows the reference gathers -/

/-- A word below 100000, read signed, is that number. -/
theorem toInt_of_lt {v : BitVec 32} (h : v.toNat < 100000) : v.toInt = v.toNat := by
  rw [BitVec.toInt_eq_toNat_cond]
  split <;> omega

/-- Where the numbers name rows of the table, the row number gathered at is the number itself. -/
theorem rowNums_apply (a : IVec S4096x64 32) (ha : ∀ x, (a x).toNat < 100000) (z : S4096x64x1.Idx) :
    Ref.rowNums a z = a (nodeCell (z 0).val (z 1).val) := by
  have h0 : (z 0).val < 4096 := (z 0).isLt
  have h1 : (z 1).val < 64 := (z 1).isLt
  unfold Ref.rowNums
  rw [broadcastInDim_apply _ _ _ z (nodeCell (z 0).val (z 1).val) (by
    intro b
    match b with
    | ⟨0, _⟩ => exact (Nat.mod_eq_of_lt h0)
    | ⟨1, _⟩ => exact (Nat.mod_eq_of_lt h1))]
  refine if_neg fun e => ?_
  have e' := IntOp.cmpi_slt.1 e
  have := toInt_of_lt (ha (nodeCell (z 0).val (z 1).val))
  have hz : (broadcastInDim S4096x64 ![] bcast_S_S4096x64 (constantI S_ 32 0#32) (nodeCell (z 0).val (z 1).val)).toInt = 0 := rfl
  rw [hz] at e'
  omega

/-- Where the numbers name rows of the table, the reference finds that each does. -/
theorem known_apply (a : IVec S4096x64 32) (ha : ∀ x, (a x).toNat < 100000) (x : S4096x64.Idx) : Ref.known a x = 1#1 := by
  refine Host.reduce_andi_one _ _ _ _ x rfl fun z => ?_
  have e := rowNums_apply a ha z
  have hlt := ha (nodeCell (z 0).val (z 1).val)
  have hi := toInt_of_lt hlt
  refine IntOp.andi_eq_one.2 ⟨IntOp.cmpi_sge.2 ?_, IntOp.cmpi_sle.2 ?_⟩
  · rw [e, hi]
    exact Int.natCast_nonneg _
  · rw [e, hi]
    show ((a (nodeCell (z 0).val (z 1).val)).toNat : ℤ) ≤ 99999
    omega

/-- Where the row number of element `(b, k)` stands among the row numbers. -/
def rowCell (b k : ℕ) : S4096x64x1.Idx := fun
  | 0 => ⟨b % 4096, Nat.mod_lt _ (by decide)⟩
  | 1 => ⟨k % 64, Nat.mod_lt _ (by decide)⟩
  | 2 => ⟨0, Nat.one_pos⟩

/-- The gather read at an element: the table at the row its number names, read signed and held to the table's rows, and at
    the element's own column. -/
theorem gather_apply (tb : FVec F S100000x128 .f32) (n : IVec S4096x64x1 32) (y : S4096x64x128.Idx) :
    Host.gather gather_S100000x128_S4096x64x1_S4096x64x128_2_0_n_n_0_2_1128 tb n y
      = tb (tableCell (min (n (rowCell (y 0).val (y 1).val)).toInt.toNat 99999) (y 2).val) := by
  let d := gather_S100000x128_S4096x64x1_S4096x64x128_2_0_n_n_0_2_1128
  have h0 : (y 0).val < 4096 := (y 0).isLt
  have h1 : (y 1).val < 64 := (y 1).isLt
  have h2 : (y 2).val < 128 := (y 2).isLt
  have e0 : d.start y n (0 : Fin 2) = min (n (rowCell (y 0).val (y 1).val)).toInt.toNat 99999 := by
    unfold GatherDims.start
    rw [dif_pos (show (0 : Fin 2) ∈ d.startIndexMap from List.mem_singleton.2 rfl)]
    refine congrArg (fun q => min (n q).toInt.toNat 99999) (funext fun q => Fin.ext ?_)
    match q with
    | ⟨0, _⟩ => exact (Nat.mod_eq_of_lt h0).symm
    | ⟨1, _⟩ => exact (Nat.mod_eq_of_lt h1).symm
    | ⟨2, _⟩ => rfl
  have e1 : d.start y n (1 : Fin 2) = 0 := by
    unfold GatherDims.start
    rw [dif_neg (show (1 : Fin 2) ∉ d.startIndexMap by decide)]
  unfold Host.gather
  refine congrArg tb (funext fun b => Fin.ext ?_)
  show d.start y n b + d.batchCoord y b + d.offCoord y b = _
  rw [d.batchCoord_eq_zero y b List.not_mem_nil, Nat.add_zero]
  have hb : b = (0 : Fin 2) ∨ b = (1 : Fin 2) := by
    match b with
    | ⟨0, _⟩ => exact Or.inl rfl
    | ⟨1, _⟩ => exact Or.inr rfl
  rcases hb with rfl | rfl
  · rw [e0, d.offCoord_eq_zero y _ fun h => ((d.mem_sKept _).1 h).1 (List.mem_singleton.2 rfl), Nat.add_zero]
    exact (Nat.mod_eq_of_lt (by omega)).symm
  · rw [e1, Nat.zero_add]
    exact (Nat.mod_eq_of_lt h2).symm

/-- Where the numbers name rows of the table, what the reference takes for an element is the table at the row its number
    names. -/
theorem taken_apply (tb : FVec F S100000x128 .f32) (a : IVec S4096x64 32) (ha : ∀ x, (a x).toNat < 100000) (y : S4096x64x128.Idx) :
    Ref.taken tb a y = tb (tableCell (a (nodeCell (y 0).val (y 1).val)).toNat (y 2).val) := by
  have h0 : (y 0).val < 4096 := (y 0).isLt
  have h1 : (y 1).val < 64 := (y 1).isLt
  have hlt := ha (nodeCell (y 0).val (y 1).val)
  have hc : nodeCell ((y 0).val % 4096) ((y 1).val % 64) = nodeCell (y 0).val (y 1).val := by
    rw [Nat.mod_eq_of_lt h0, Nat.mod_eq_of_lt h1]
  unfold Ref.taken
  show Scalar.select _ _ _ = _
  rw [broadcastInDim_apply _ _ _ y (nodeCell (y 0).val (y 1).val) (by
    intro b
    match b with
    | ⟨0, _⟩ => exact (Nat.mod_eq_of_lt h0)
    | ⟨1, _⟩ => exact (Nat.mod_eq_of_lt h1)), known_apply a ha]
  show Host.gather _ tb _ y = _
  rw [gather_apply, rowNums_apply a ha]
  show tb (tableCell (min (a (nodeCell ((y 0).val % 4096) ((y 1).val % 64))).toInt.toNat 99999) (y 2).val) = _
  rw [hc, toInt_of_lt hlt]
  refine congrArg (fun r => tb (tableCell r (y 2).val)) ?_
  omega

/-! ## The mean of sixty-four rows -/

/-- Read at the extended reals, the sum of a column's first rows is the sum over them. -/
theorem colSum_eq (G : Cert.KernelIdeal.S64x128.Idx → Ideal .f32) (k n : ℕ) :
    colSum (F := Ideal) G k n = ∑ r ∈ Finset.range n, (G (cell r k) : EReal) := by
  induction n with
  | zero => exact Ideal.ofBits_zero_f32
  | succ n ih => rw [Finset.sum_range_succ, ← ih]; rfl

/-- The reference's divisor is sixty-four. -/
theorem ofBits_sixty_four : Ideal.ofBits .f32 0x42800000#32 = ((64 : ℝ) : EReal) := by
  simp [Ideal.ofBits, Ideal.ieee, -EReal.coe_mul]; norm_num

/-- The kernel's factor is one sixty-fourth. -/
theorem ofBits_one_sixty_fourth : Ideal.ofBits .f32 0x3C800000#32 = ((1 / 64 : ℝ) : EReal) := by
  simp [Ideal.ofBits, Ideal.ieee, -EReal.coe_mul]; norm_num

/-- The reference's result at an element: the sum of the sixty-four elements taken, over sixty-four. -/
theorem out_apply (tb : FVec Ideal S100000x128 .f32) (a : IVec S4096x64 32) (y : S4096x128.Idx) :
    Ref.out tb a y
      = (∑ r : Fin 64, (Ref.taken tb a (fun | 0 => ⟨(y 0).val, (y 0).isLt⟩ | 1 => r | 2 => ⟨(y 1).val, (y 1).isLt⟩) : EReal))
          * ((1 / 64 : ℝ) : EReal) := by
  have hr : S4096x64x128.Reduces [1] S4096x128 := by decide
  unfold Ref.out
  rw [ValueIdx.hostDivf_apply, ValueIdx.hostReduceAdd_apply, Ideal.hostReduceAdd_single _ hr]
  show Ideal.div (Ideal.ofBits .f32 0x00000000#32 + _) (Ideal.ofBits .f32 0x42800000#32) = _
  rw [Ideal.ofBits_zero_f32, zero_add, ofBits_sixty_four, Ideal.div_coe (by norm_num)]
  refine congrArg (· * ((1 / 64 : ℝ) : EReal)) (Finset.sum_congr rfl fun r _ => ?_)
  refine congrArg (Ref.taken tb a) (funext fun b => Fin.ext ?_)
  match b with
  | ⟨0, _⟩ => rfl
  | ⟨1, _⟩ => rfl
  | ⟨2, _⟩ => rfl

/-- Where the numbers name rows of the table, the reference's result and the kernel's are the same. -/
theorem out_eq_means (tb : FVec Ideal S100000x128 .f32) (a : IVec S4096x64 32) (ha : ∀ x, (a x).toNat < 100000) :
    Ref.out tb a = means (F := Ideal) tb a := by
  funext y
  have h1 : (y 1).val < 128 := (y 1).isLt
  rw [out_apply]
  show _ = (colSum (F := Ideal) _ _ 64 : EReal) * Ideal.ofBits .f32 0x3C800000#32
  rw [colSum_eq, ofBits_one_sixty_fourth, Finset.sum_range]
  refine congrArg (· * ((1 / 64 : ℝ) : EReal)) (Finset.sum_congr rfl fun r _ => ?_)
  rw [taken_apply tb a ha]
  show tb (tableCell (a (nodeCell (y 0).val r.val)).toNat (y 1).val)
    = tb (tableCell (a (nodeCell (y 0).val (r.val % 64))).toNat ((y 1).val % 128))
  rw [Nat.mod_eq_of_lt r.isLt, Nat.mod_eq_of_lt h1]

/-- `Cert.algebraic_KernelIdeal_ReferenceIdeal` (Defs.lean): at the extended reals, from equal arguments, the kernel and the
    reference end with the same result. -/
theorem algebraic : Cert.algebraic_KernelIdeal_ReferenceIdeal := by
  intro m ρ m' ρ' hpre hagree
  have hin : Cert.KernelIdeal.Own.PreOK (F := Ideal) m := fun d x => lt_of_in_range _ _ (hpre d) x
  refine ⟨_, (θ_run Cert.KernelIdeal.defs _ _).mono (fun _ e c => ⟨(e.1 c).2.2, (e.1 c).1, (e.1 c).2.1⟩)
    (run_main (F := Ideal) m ρ hin), ?_⟩
  refine (θ_run Cert.ReferenceIdeal.defs _ _).mono (fun _ e c => ⟨(e.1 c).1.trans ?_, (e.1 c).2⟩) (Ref.run (F := Ideal) m' ρ')
  rw [(hagree c).1, (hagree c).2]
  exact out_eq_means _ _ (hin c)

end Cert.Proof

end
-- ==== Proof.lean ====
/-
  The certificate of the mean over gathered rows: the kernel on the SparseCore, run whole, against the plain gather and mean.
  Launch.lean proves the run of the kernel with its result's value, for any float values; Frames.lean reads the two frames off
  it; Reference.lean runs the reference; Mean.lean proves the two results equal at the extended reals.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Mean
public import Idealize.ShloMosaic.Adequacy
public import Idealize.ShloMosaic.Init

@[expose] public section

noncomputable section

namespace Cert.Proof

open Idealize.ShloMosaic Idealize.SL.Sem Cert.Kernel

/-- Everything claimed: the frames of the kernel, of its idealization and of the reference, the idealization, and the equality
    of the results at the extended reals. -/
theorem claim : Cert.Claim :=
  ⟨Cert.Kernel.Gen.facts, Cert.KernelIdeal.Gen.facts, Cert.ReferenceIdeal.Gen.facts, Cert.Pre_in_range.Gen.facts,
    frame_kernel, frame_ideal, Ref.frame, Ref.frame_in_range, trivial, algebraic⟩

end Cert.Proof

end
